-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_in_bag [hPre_in_bag : Cert.Pre_in_bag.Facts] (m : (ℓ : Loc Cert.KernelIdeal.nD Cert.KernelIdeal.τ Cert.KernelIdeal.sig) → Buf (Elt Ideal) ℓ) : Prop :=
  ∀ c : Dev Cert.KernelIdeal.nD,
    (Cert.Pre_in_bag.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_bag [hPre_in_bag : Cert.Pre_in_bag.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_bag.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_bag [hKernelIdeal : Cert.KernelIdeal.Facts] [hPre_in_bag : Cert.Pre_in_bag.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_bag m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_bag [hReferenceIdeal : Cert.ReferenceIdeal.Facts] [hPre_in_bag : Cert.Pre_in_bag.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_bag m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_bag [hKernelIdeal : Cert.KernelIdeal.Facts] [hReferenceIdeal : Cert.ReferenceIdeal.Facts] [hPre_in_bag : Cert.Pre_in_bag.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_bag m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts) (hPre_in_bag : Cert.Pre_in_bag.Facts),
    quiescent_Kernel (hKernel := hKernel) (hPre_in_range := hPre_in_range)
    ∧ quiescent_KernelIdeal (hKernelIdeal := hKernelIdeal) (hPre_in_range := hPre_in_range)
    ∧ quiescent_KernelIdeal_pre_in_bag (hKernelIdeal := hKernelIdeal) (hPre_in_bag := hPre_in_bag)
    ∧ quiescent_ReferenceIdeal (hReferenceIdeal := hReferenceIdeal)
    ∧ quiescent_ReferenceIdeal_pre_in_bag (hReferenceIdeal := hReferenceIdeal) (hPre_in_bag := hPre_in_bag)
    ∧ preserves_Kernel_KernelIdeal
    ∧ algebraic_KernelIdeal_ReferenceIdeal_pre_in_bag (hKernelIdeal := hKernelIdeal) (hReferenceIdeal := hReferenceIdeal) (hPre_in_bag := hPre_in_bag)
-- ==== Pre_in_bag.lean ====
abbrev S26x1 : Shape := ⟨2, ![26, 1]⟩
abbrev S26x16384 : Shape := ⟨2, ![26, 16384]⟩
abbrev S26x100000x16 : Shape := ⟨3, ![26, 100000, 16]⟩
abbrev S_ : Shape := ⟨0, ![]⟩

class Facts : Prop where
  bcast_S_S26x16384 : S_.BroadcastsInDim S26x16384 (![] : Fin 0 → Fin S26x16384.rank)
  reducesTo_S26x16384_S_d0_1 : S26x16384.ReducesTo [0, 1] S_
  h_S_ : 0 < S_.numel
  bcast_S_S26x1 : S_.BroadcastsInDim S26x1 (![] : Fin 0 → Fin S26x1.rank)
  reducesTo_S26x1_S_d0_1 : S26x1.ReducesTo [0, 1] S_

variable [Facts]

def fn {F : FTy → Type} [FloatOps F] (main_arg0 : IVec S26x1 32) (main_arg1 : IVec S26x16384 32) (main_arg2 : FVec F S26x100000x16 .f32) : IVec S_ 1 :=
  let main_c : IVec S_ 32 := constantI S_ 32 0#32
  let main_v0 : IVec S26x16384 32 := broadcastInDim S26x16384 ![] bcast_S_S26x16384 main_c
  let main_v1 : IVec S26x16384 1 := cmpi .sge main_arg1 main_v0
  let main_c_0 : IVec S_ 32 := constantI S_ 32 100000#32
  let main_v2 : IVec S26x16384 32 := broadcastInDim S26x16384 ![] bcast_S_S26x16384 main_c_0
  let main_v3 : IVec S26x16384 1 := cmpi .slt main_arg1 main_v2
  let main_v4 : IVec S26x16384 1 := andi main_v1 main_v3
  let main_c_1 : IVec S_ 1 := constantI S_ 1 1#1
  let main_v5 : IVec S_ 1 := (fun x v => Host.reduce IntOp.andi x v reducesTo_S26x16384_S_d0_1 h_S_) main_v4 main_c_1
  let main_c_2 : IVec S_ 32 := constantI S_ 32 0#32
  let main_v6 : IVec S26x1 32 := broadcastInDim S26x1 ![] bcast_S_S26x1 main_c_2
  let main_v7 : IVec S26x1 1 := cmpi .sle main_arg0 main_v6
  let main_c_3 : IVec S_ 1 := constantI S_ 1 1#1
  let main_v8 : IVec S_ 1 := (fun x v => Host.reduce IntOp.andi x v reducesTo_S26x1_S_d0_1 h_S_) main_v7 main_c_3
  let main_v9 : IVec S_ 1 := andi main_v5 main_v8
  main_v9
-- ==== Pre_in_range.lean ====
abbrev S26x1 : Shape := ⟨2, ![26, 1]⟩
abbrev S26x16384 : Shape := ⟨2, ![26, 16384]⟩
abbrev S26x100000x16 : Shape := ⟨3, ![26, 100000, 16]⟩
abbrev S_ : Shape := ⟨0, ![]⟩

class Facts : Prop where
  bcast_S_S26x16384 : S_.BroadcastsInDim S26x16384 (![] : Fin 0 → Fin S26x16384.rank)
  reducesTo_S26x16384_S_d0_1 : S26x16384.ReducesTo [0, 1] S_
  h_S_ : 0 < S_.numel

variable [Facts]

def fn {F : FTy → Type} [FloatOps F] (main_arg0 : IVec S26x1 32) (main_arg1 : IVec S26x16384 32) (main_arg2 : FVec F S26x100000x16 .f32) : IVec S_ 1 :=
  let main_c : IVec S_ 32 := constantI S_ 32 0#32
  let main_v0 : IVec S26x16384 32 := broadcastInDim S26x16384 ![] bcast_S_S26x16384 main_c
  let main_v1 : IVec S26x16384 1 := cmpi .sge main_arg1 main_v0
  let main_c_0 : IVec S_ 32 := constantI S_ 32 100000#32
  let main_v2 : IVec S26x16384 32 := broadcastInDim S26x16384 ![] bcast_S_S26x16384 main_c_0
  let main_v3 : IVec S26x16384 1 := cmpi .slt main_arg1 main_v2
  let main_v4 : IVec S26x16384 1 := andi main_v1 main_v3
  let main_c_1 : IVec S_ 1 := constantI S_ 1 1#1
  let main_v5 : IVec S_ 1 := (fun x v => Host.reduce IntOp.andi x v reducesTo_S26x16384_S_d0_1 h_S_) main_v4 main_c_1
  main_v5
-- ==== Kernel.lean ====
abbrev S26x1 : Shape := ⟨2, ![26, 1]⟩
abbrev S26x16384 : Shape := ⟨2, ![26, 16384]⟩
abbrev S26x100000x16 : Shape := ⟨3, ![26, 100000, 16]⟩
abbrev S26x16x100000 : Shape := ⟨3, ![26, 16, 100000]⟩
abbrev S2662400 : Shape := ⟨1, ![2662400]⟩
abbrev S16384 : Shape := ⟨1, ![16384]⟩
abbrev S102400 : Shape := ⟨1, ![102400]⟩
abbrev S_ : Shape := ⟨0, ![]⟩
abbrev S1x16384 : Shape := ⟨2, ![1, 16384]⟩
abbrev S16 : Shape := ⟨1, ![16]⟩
abbrev S26x1x16 : Shape := ⟨3, ![26, 1, 16]⟩
abbrev S1x16x100000 : Shape := ⟨3, ![1, 16, 100000]⟩
abbrev S1x1x16 : Shape := ⟨3, ![1, 1, 16]⟩
abbrev S16x100000 : Shape := ⟨2, ![16, 100000]⟩
abbrev S12800 : Shape := ⟨1, ![12800]⟩
abbrev S16x12800 : Shape := ⟨2, ![16, 12800]⟩
abbrev S1x12800 : Shape := ⟨2, ![1, 12800]⟩
abbrev S10400 : Shape := ⟨1, ![10400]⟩
abbrev S16x10400 : Shape := ⟨2, ![16, 10400]⟩
abbrev S1x10400 : Shape := ⟨2, ![1, 10400]⟩

abbrev nBuf : Table → Nat
  | .hbm => 6
  | .local .tc .vmem => 6
  | .local .scVector .vmem => 2
  | _ => 0

abbrev bufTy : (tb : Table) → Fin (nBuf tb) → BufTy
  | .hbm, ⟨0, _⟩ => ⟨S26x1, .i32⟩
  | .hbm, ⟨1, _⟩ => ⟨S26x16384, .i32⟩
  | .hbm, ⟨2, _⟩ => ⟨S26x100000x16, .f32⟩
  | .hbm, ⟨3, _⟩ => ⟨S26x16x100000, .f32⟩
  | .hbm, ⟨4, _⟩ => ⟨S2662400, .i32⟩
  | .hbm, ⟨5, _⟩ => ⟨S26x1x16, .f32⟩
  | .local .tc .vmem, ⟨0, _⟩ => ⟨S102400, .i32⟩
  | .local .tc .vmem, ⟨1, _⟩ => ⟨S102400, .i32⟩
  | .local .tc .vmem, ⟨2, _⟩ => ⟨S1x16x100000, .f32⟩
  | .local .tc .vmem, ⟨3, _⟩ => ⟨S1x16x100000, .f32⟩
  | .local .tc .vmem, ⟨4, _⟩ => ⟨S1x1x16, .f32⟩
  | .local .tc .vmem, ⟨5, _⟩ => ⟨S1x1x16, .f32⟩
  | .local .scVector .vmem, ⟨0, _⟩ => ⟨S16384, .i32⟩
  | .local .scVector .vmem, ⟨1, _⟩ => ⟨S102400, .i32⟩
  | _, _ => ⟨S26x1, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg1_scv : Ref sig .scVector := ⟨.hbm, 1, rfl⟩
abbrev main_v1_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 1 := Scalar.cmpi .slt v1 c26_i32
  let v3 : BitVec 32 := Scalar.extui v2
  let c0_i32 : BitVec 32 := 0#32
  let v4 : BitVec 1 := Scalar.cmpi .ne v3 c0_i32
  v4

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  ![v1.toNat, 0]
@[reducible] def k0_t1_loop : Scf.Loop 32 :=
  let c0_i32_4 : BitVec 32 := 0#32
  let c800_i32 : BitVec 32 := 800#32
  let v10 : BitVec 32 := Scalar.addi c0_i32_4 c800_i32
  let c1_i32 : BitVec 32 := 1#32
  ⟨c0_i32_4, v10, c1_i32⟩
def k0_off2 (k0_t1 : Fin k0_t1_loop.trips) (c0_i32_12 : BitVec 32) : Fin 1 → Nat :=
  let c0_i32_4 : BitVec 32 := 0#32
  let c1_i32 : BitVec 32 := 1#32
  let arg7 : BitVec 32 := Scf.iv c0_i32_4 c1_i32 k0_t1
  let c8_i32 : BitVec 32 := 8#32
  let v19 : BitVec 32 := Scalar.muli arg7 c8_i32
  let v20 : BitVec 32 := Scalar.addi v19 c0_i32_12
  let c16_i32 : BitVec 32 := 16#32
  let v21 : BitVec 32 := Scalar.muli v20 c16_i32
  let v22 : Index := Scalar.indexCast v21
  ![v22.toNat]
@[reducible] def k0_t2_loop : Scf.Loop 32 :=
  let c0_i32_9 : BitVec 32 := 0#32
  let c128_i32 : BitVec 32 := 128#32
  let v16 : BitVec 32 := Scalar.addi c0_i32_9 c128_i32
  let c1_i32_10 : BitVec 32 := 1#32
  ⟨c0_i32_9, v16, c1_i32_10⟩
def k0_off3 (k0_t2 : Fin k0_t2_loop.trips) (c0_i32_12 : BitVec 32) : Fin 1 → Nat :=
  let c0_i32_9 : BitVec 32 := 0#32
  let c1_i32_10 : BitVec 32 := 1#32
  let arg7 : BitVec 32 := Scf.iv c0_i32_9 c1_i32_10 k0_t2
  let c8_i32 : BitVec 32 := 8#32
  let v19 : BitVec 32 := Scalar.muli arg7 c8_i32
  let v20 : BitVec 32 := Scalar.addi v19 c0_i32_12
  let c16_i32 : BitVec 32 := 16#32
  let v21 : BitVec 32 := Scalar.muli v20 c16_i32
  let v22 : Index := Scalar.indexCast v21
  ![v22.toNat]

def k0_chk1 (i : grid0.Coords) (v23 : IVec S16 32) : Prop :=
  (∀ (k0_h1 : k0_cond1 i = 1#1), ∀ a x, ((![v23] : Fin 1 → IVec S16 32) a x).toNat < S102400.size a)
theorem k0_idx1_inb : ∀ (i : grid0.Coords) (v23 : IVec S16 32) (k0_hw1 : k0_chk1 i v23), ∀ (k0_h1 : k0_cond1 i = 1#1), ∀ a x, ((![v23] : Fin 1 → IVec S16 32) a x).toNat < S102400.size a := fun i v23 k0_hw1 k0_h1 => k0_hw1 k0_h1

def k0_chk2 (i : grid0.Coords) (v28 : IVec S16 32) : Prop :=
  (∀ (k0_h1 : k0_cond1 i = 1#1), ∀ a x, ((![v28] : Fin 1 → IVec S16 32) a x).toNat < S102400.size a)
theorem k0_idx2_inb : ∀ (i : grid0.Coords) (v28 : IVec S16 32) (k0_hw2 : k0_chk2 i v28), ∀ (k0_h1 : k0_cond1 i = 1#1), ∀ a x, ((![v28] : Fin 1 → IVec S16 32) a x).toNat < S102400.size a := fun i v28 k0_hw2 k0_h1 => k0_hw2 k0_h1

def k0_chk3 (i : grid0.Coords) (v33 : IVec S16 32) : Prop :=
  (∀ (k0_h1 : k0_cond1 i = 1#1), ∀ a x, ((![v33] : Fin 1 → IVec S16 32) a x).toNat < S102400.size a)
theorem k0_idx3_inb : ∀ (i : grid0.Coords) (v33 : IVec S16 32) (k0_hw3 : k0_chk3 i v33), ∀ (k0_h1 : k0_cond1 i = 1#1), ∀ a x, ((![v33] : Fin 1 → IVec S16 32) a x).toNat < S102400.size a := fun i v33 k0_hw3 k0_h1 => k0_hw3 k0_h1

def k0_chk4 (i : grid0.Coords) (v38 : IVec S16 32) : Prop :=
  (∀ (k0_h1 : k0_cond1 i = 1#1), ∀ a x, ((![v38] : Fin 1 → IVec S16 32) a x).toNat < S102400.size a)
theorem k0_idx4_inb : ∀ (i : grid0.Coords) (v38 : IVec S16 32) (k0_hw4 : k0_chk4 i v38), ∀ (k0_h1 : k0_cond1 i = 1#1), ∀ a x, ((![v38] : Fin 1 → IVec S16 32) a x).toNat < S102400.size a := fun i v38 k0_hw4 k0_h1 => k0_hw4 k0_h1

def k0_chk5 (i : grid0.Coords) (v43 : IVec S16 32) : Prop :=
  (∀ (k0_h1 : k0_cond1 i = 1#1), ∀ a x, ((![v43] : Fin 1 → IVec S16 32) a x).toNat < S102400.size a)
theorem k0_idx5_inb : ∀ (i : grid0.Coords) (v43 : IVec S16 32) (k0_hw5 : k0_chk5 i v43), ∀ (k0_h1 : k0_cond1 i = 1#1), ∀ a x, ((![v43] : Fin 1 → IVec S16 32) a x).toNat < S102400.size a := fun i v43 k0_hw5 k0_h1 => k0_hw5 k0_h1

def k0_chk6 (i : grid0.Coords) (v48 : IVec S16 32) : Prop :=
  (∀ (k0_h1 : k0_cond1 i = 1#1), ∀ a x, ((![v48] : Fin 1 → IVec S16 32) a x).toNat < S102400.size a)
theorem k0_idx6_inb : ∀ (i : grid0.Coords) (v48 : IVec S16 32) (k0_hw6 : k0_chk6 i v48), ∀ (k0_h1 : k0_cond1 i = 1#1), ∀ a x, ((![v48] : Fin 1 → IVec S16 32) a x).toNat < S102400.size a := fun i v48 k0_hw6 k0_h1 => k0_hw6 k0_h1

def k0_chk7 (i : grid0.Coords) (v53 : IVec S16 32) : Prop :=
  (∀ (k0_h1 : k0_cond1 i = 1#1), ∀ a x, ((![v53] : Fin 1 → IVec S16 32) a x).toNat < S102400.size a)
theorem k0_idx7_inb : ∀ (i : grid0.Coords) (v53 : IVec S16 32) (k0_hw7 : k0_chk7 i v53), ∀ (k0_h1 : k0_cond1 i = 1#1), ∀ a x, ((![v53] : Fin 1 → IVec S16 32) a x).toNat < S102400.size a := fun i v53 k0_hw7 k0_h1 => k0_hw7 k0_h1

def k0_chk8 (i : grid0.Coords) (v58 : IVec S16 32) : Prop :=
  (∀ (k0_h1 : k0_cond1 i = 1#1), ∀ a x, ((![v58] : Fin 1 → IVec S16 32) a x).toNat < S102400.size a)
theorem k0_idx8_inb : ∀ (i : grid0.Coords) (v58 : IVec S16 32) (k0_hw8 : k0_chk8 i v58), ∀ (k0_h1 : k0_cond1 i = 1#1), ∀ a x, ((![v58] : Fin 1 → IVec S16 32) a x).toNat < S102400.size a := fun i v58 k0_hw8 k0_h1 => k0_hw8 k0_h1
def k0_off4 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102400_i32 : BitVec 32 := 102400#32
  let v18 : BitVec 32 := Scalar.muli v1 c102400_i32
  ![v18.toNat]
abbrev grid1 : Pipeline.Grid := ⟨1, ![26], ![false]⟩

def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S102400 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x16x100000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S26x1 : Shape := ⟨2, ![26, 1]⟩
abbrev S26x16384 : Shape := ⟨2, ![26, 16384]⟩
abbrev S26x100000x16 : Shape := ⟨3, ![26, 100000, 16]⟩
abbrev S26 : Shape := ⟨1, ![26]⟩
abbrev S_ : Shape := ⟨0, ![]⟩
abbrev S26x16384x1 : Shape := ⟨3, ![26, 16384, 1]⟩
abbrev S26x16384x2 : Shape := ⟨3, ![26, 16384, 2]⟩
abbrev S26x16384x16 : Shape := ⟨3, ![26, 16384, 16]⟩
abbrev S16384 : Shape := ⟨1, ![16384]⟩
abbrev S26x1x1 : Shape := ⟨3, ![26, 1, 1]⟩
abbrev S1x16384x1 : Shape := ⟨3, ![1, 16384, 1]⟩
abbrev S26x1x16 : Shape := ⟨3, ![26, 1, 16]⟩

abbrev nBuf : Space → Nat
  | .hbm => 43
  | .vmem => 0
  | .smem => 0
  | _ => 0

abbrev bufTy : (tb : Table) → Fin (tcTables nBuf tb) → BufTy
  | .hbm, ⟨0, _⟩ => ⟨S26x1, .i32⟩
  | .hbm, ⟨1, _⟩ => ⟨S26x16384, .i32⟩
  | .hbm, ⟨2, _⟩ => ⟨S26x100000x16, .f32⟩
  | .hbm, ⟨3, _⟩ => ⟨S26, .i32⟩
  | .hbm, ⟨4, _⟩ => ⟨S26x1, .i32⟩
  | .hbm, ⟨5, _⟩ => ⟨S_, .i32⟩
  | .hbm, ⟨6, _⟩ => ⟨S26x1, .i32⟩
  | .hbm, ⟨7, _⟩ => ⟨S26x1, .i1⟩
  | .hbm, ⟨8, _⟩ => ⟨S_, .i32⟩
  | .hbm, ⟨9, _⟩ => ⟨S26x1, .i32⟩
  | .hbm, ⟨10, _⟩ => ⟨S26x1, .i32⟩
  | .hbm, ⟨11, _⟩ => ⟨S26x1, .i32⟩
  | .hbm, ⟨12, _⟩ => ⟨S_, .i32⟩
  | .hbm, ⟨13, _⟩ => ⟨S26x16384, .i32⟩
  | .hbm, ⟨14, _⟩ => ⟨S26x16384, .i1⟩
  | .hbm, ⟨15, _⟩ => ⟨S_, .i32⟩
  | .hbm, ⟨16, _⟩ => ⟨S26x16384, .i32⟩
  | .hbm, ⟨17, _⟩ => ⟨S26x16384, .i32⟩
  | .hbm, ⟨18, _⟩ => ⟨S26x16384, .i32⟩
  | .hbm, ⟨19, _⟩ => ⟨S26x16384, .i32⟩
  | .hbm, ⟨20, _⟩ => ⟨S26x16384x1, .i32⟩
  | .hbm, ⟨21, _⟩ => ⟨S26x16384x1, .i32⟩
  | .hbm, ⟨22, _⟩ => ⟨S26x16384x2, .i32⟩
  | .hbm, ⟨23, _⟩ => ⟨S26x16384x16, .f32⟩
  | .hbm, ⟨24, _⟩ => ⟨S16384, .i32⟩
  | .hbm, ⟨25, _⟩ => ⟨S26x1x1, .i32⟩
  | .hbm, ⟨26, _⟩ => ⟨S1x16384x1, .i32⟩
  | .hbm, ⟨27, _⟩ => ⟨S26x16384x1, .i32⟩
  | .hbm, ⟨28, _⟩ => ⟨S26x16384x1, .i32⟩
  | .hbm, ⟨29, _⟩ => ⟨S26x16384x1, .i1⟩
  | .hbm, ⟨30, _⟩ => ⟨S26x16384x1, .i32⟩
  | .hbm, ⟨31, _⟩ => ⟨S_, .i32⟩
  | .hbm, ⟨32, _⟩ => ⟨S26x16384, .i32⟩
  | .hbm, ⟨33, _⟩ => ⟨S_, .i32⟩
  | .hbm, ⟨34, _⟩ => ⟨S26x16384, .i32⟩
  | .hbm, ⟨35, _⟩ => ⟨S26x16384, .i32⟩
  | .hbm, ⟨36, _⟩ => ⟨S_, .f32⟩
  | .hbm, ⟨37, _⟩ => ⟨S26x1x16, .f32⟩
  | .hbm, ⟨38, _⟩ => ⟨S26x16384, .i32⟩
  | .hbm, ⟨39, _⟩ => ⟨S26x16384x1, .i32⟩
  | .hbm, ⟨40, _⟩ => ⟨S26x16384x1, .i32⟩
  | .hbm, ⟨41, _⟩ => ⟨S26x16384x2, .i32⟩
  | .hbm, ⟨42, _⟩ => ⟨S26x1x16, .f32⟩
  | _, _ => ⟨S26x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_3 : Ref sig .tc := ⟨.hbm, 31, rfl⟩
abbrev main_v24 : Ref sig .tc := ⟨.hbm, 32, rfl⟩
abbrev main_c_4 : Ref sig .tc := ⟨.hbm, 33, rfl⟩
abbrev main_v25 : Ref sig .tc := ⟨.hbm, 34, rfl⟩
abbrev main_v26 : Ref sig .tc := ⟨.hbm, 35, rfl⟩
abbrev main_cst : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Proof.Hist.lean ====
/-
  The counting scatter, as mathematics: a vector store that ADDS at indices, masked to each value's last occurrence in
  the vector and carrying the number of occurrences up to it (`scanCount`), adds to every word of the base the number
  of lanes that name it. So a loop of such stores, sixteen indices at a time, over a base that starts at zero leaves the
  histogram of the indices.
-/
module

public import Idealize.ShloMosaic.PureOps.ShapeOps
public import Mathlib.Data.BitVec
public import Mathlib.Algebra.BigOperators.Fin

@[expose] public section

noncomputable section

namespace Cert.Proof.Hist

open Idealize.ShloMosaic

variable {F : FTy → Type} [FloatOps F]

/-! ## A scatter that adds -/

/-- An adding scatter of words leaves at `b` what was there plus every set lane's word that names `b`. -/
theorem storeIdx_add {s : Shape} {d : Fin 1 → ℕ} (f : Vec F s .i32) (idxs : Fin s.rank → IVec ⟨1, d⟩ 32) (v : Vec F ⟨1, d⟩ .i32)
    (mask : IVec ⟨1, d⟩ 1) (h : ∀ a x, (idxs a x).toNat < s.size a) (b : s.Idx) :
    storeIdx (F := F) f idxs v mask true h b
      = ((f b : BitVec 32) + ∑ k : Fin (d 0), (if mask (Shape.ofLane k) = 1 ∧ ∀ a, (b a).val = (idxs a (Shape.ofLane k)).toNat
          then v (Shape.ofLane k) else 0 : BitVec 32) : BitVec 32) := by
  rw [Fin.sum_univ_def]
  unfold storeIdx
  generalize List.finRange (d 0) = l
  induction l generalizing f with
  | nil => simp
  | cons k l ih =>
    rw [List.foldl_cons, ih, List.map_cons, List.sum_cons, ← add_assoc]
    congr 1
    by_cases hm : mask (Shape.ofLane k) = 1
    · simp only [hm, if_true, true_and, Elt.idxAdd_i32, idxAt]
      by_cases hb : ∀ a, (b a).val = (idxs a (Shape.ofLane k)).toNat
      · rw [if_pos hb, if_pos hb]
        congr 2
        funext a; exact Fin.ext (hb a).symm
      · rw [if_neg hb, if_neg hb, add_zero]
    · simp only [hm, if_false, false_and, add_zero]

/-! ## The lanes of a rank-one vector -/

theorem lane_pos {d : Fin 1 → ℕ} (x : (⟨1, d⟩ : Shape).Idx) : ((⟨1, d⟩ : Shape).rowMajor x).val = (x 0).val := by
  exact Shape.rowMajor_val_one x

/-- The indices of a rank-one shape are its lanes. -/
def laneEquiv (d : Fin 1 → ℕ) : Fin (d 0) ≃ (⟨1, d⟩ : Shape).Idx where
  toFun := Shape.ofLane
  invFun x := x 0
  left_inv k := rfl
  right_inv x := by funext a; obtain rfl := Fin.eq_zero a; rfl

/-- The words a masked counting scatter adds at the value `β`: at its last lane, the number of lanes holding it. -/
theorem sum_scanCount {d : Fin 1 → ℕ} (v : IVec ⟨1, d⟩ 32) (β : BitVec 32) :
    (∑ x : (⟨1, d⟩ : Shape).Idx, if (scanCount (fun _ => 1) v).1 x = 1 ∧ β = v x then (scanCount (fun _ => 1) v).2 x else 0)
      = BitVec.ofNat 32 (Finset.univ.filter fun x => v x = β).card := by
  have hmask : ∀ x, (scanCount (fun _ => 1) v).1 x = 1 ↔ ∀ j : (⟨1, d⟩ : Shape).Idx, (x 0).val < (j 0).val → v j ≠ v x := by
    intro x
    simp only [scanCount, lane_pos, true_and]
    constructor
    · intro hx; by_contra hc; rw [if_neg hc] at hx; exact absurd hx (by decide)
    · intro hx; rw [if_pos hx]
  have hcnt : ∀ x, (scanCount (fun _ => 1) v).2 x
      = BitVec.ofNat 32 (Finset.univ.filter fun j : (⟨1, d⟩ : Shape).Idx => (j 0).val ≤ (x 0).val ∧ v j = v x).card := by
    intro x; simp only [scanCount, lane_pos, true_and, if_true]
  by_cases hne : (Finset.univ.filter fun x => v x = β).Nonempty
  · obtain ⟨x₀, hx₀, hmax⟩ := Finset.exists_max_image _ (fun x : (⟨1, d⟩ : Shape).Idx => (x 0).val) hne
    have hv : v x₀ = β := (Finset.mem_filter.mp hx₀).2
    have hle : ∀ j, v j = β → (j 0).val ≤ (x₀ 0).val := fun j hj => hmax j (Finset.mem_filter.mpr ⟨Finset.mem_univ _, hj⟩)
    rw [Finset.sum_eq_single x₀]
    · rw [if_pos ⟨(hmask x₀).mpr fun j hj hjv => absurd (hle j (hjv.trans hv)) (by omega), hv.symm⟩, hcnt]
      congr 2
      ext j; simp only [Finset.mem_filter, Finset.mem_univ, true_and, hv]
      exact ⟨fun h => h.2, fun h => ⟨hle j h, h⟩⟩
    · intro x _ hx
      rw [if_neg]
      rintro ⟨hm, hb⟩
      have h1 := hle x hb.symm
      have h2 : (x 0).val ≠ (x₀ 0).val := fun e => hx (by funext a; obtain rfl := Fin.eq_zero a; exact Fin.ext e)
      exact (hmask x).mp hm x₀ (by omega) (hv.trans hb)
    · exact fun h => absurd (Finset.mem_univ _) h
  · rw [Finset.not_nonempty_iff_eq_empty] at hne
    rw [hne, Finset.sum_eq_zero]
    · simp
    · intro x _
      rw [if_neg]
      rintro ⟨_, hb⟩
      have : x ∈ (Finset.univ.filter fun x => v x = β) := Finset.mem_filter.mpr ⟨Finset.mem_univ _, hb.symm⟩
      rw [hne] at this; exact absurd this (Finset.notMem_empty _)

/-- One counting scatter adds to every word `b` of the base the number of lanes naming `b`. -/
theorem storeIdx_scanCount {N : ℕ} {d : Fin 1 → ℕ} (hN : N ≤ 2 ^ 32) (f : Vec F (⟨1, ![N]⟩ : Shape) .i32) (v : IVec ⟨1, d⟩ 32)
    (h : ∀ (a : Fin 1) (x : (⟨1, d⟩ : Shape).Idx), ((![v] : Fin 1 → IVec ⟨1, d⟩ 32) a x).toNat < (⟨1, ![N]⟩ : Shape).size a) (b : (⟨1, ![N]⟩ : Shape).Idx) :
    storeIdx (F := F) f ![v] (scanCount (fun _ => 1) v).2 (scanCount (fun _ => 1) v).1 true h b
      = ((f b : BitVec 32) + BitVec.ofNat 32 (Finset.univ.filter fun x => (v x).toNat = (b 0).val).card) := by
  have hb : (b 0).val < 2 ^ 32 := lt_of_lt_of_le (show (b 0).val < N from (b 0).isLt) hN
  have hβ : ∀ w : BitVec 32, BitVec.ofNat 32 (b 0).val = w ↔ (b 0).val = w.toNat := by
    intro w
    rw [← BitVec.toNat_inj, BitVec.toNat_ofNat, Nat.mod_eq_of_lt hb]
  rw [storeIdx_add]
  congr 1
  have hs := sum_scanCount v (BitVec.ofNat 32 (b 0).val)
  rw [← Equiv.sum_comp (laneEquiv d)] at hs
  rw [show (Finset.univ.filter fun x => (v x).toNat = (b 0).val) = Finset.univ.filter fun x => v x = BitVec.ofNat 32 (b 0).val from by
    ext x; simp only [Finset.mem_filter, Finset.mem_univ, true_and]; rw [eq_comm, ← hβ, eq_comm], ← hs]
  refine Finset.sum_congr rfl fun k _ => ?_
  refine if_congr (and_congr Iff.rfl ?_) rfl rfl
  rw [hβ]
  exact ⟨fun h => h 0, fun h a => by obtain rfl := Fin.eq_zero a; exact h⟩

/-! ## The histogram -/

/-- How many of the first `n` words of `s` are `b`. -/
def count {N : ℕ} (s : (⟨1, ![N]⟩ : Shape).Idx → BitVec 32) (n b : ℕ) : ℕ :=
  (Finset.univ.filter fun j : (⟨1, ![N]⟩ : Shape).Idx => (j 0).val < n ∧ (s j).toNat = b).card

theorem count_zero {N : ℕ} (s : (⟨1, ![N]⟩ : Shape).Idx → BitVec 32) (b : ℕ) : count s 0 b = 0 := by
  unfold count; simp

theorem count_le {N : ℕ} (s : (⟨1, ![N]⟩ : Shape).Idx → BitVec 32) (n b : ℕ) : count s n b ≤ N := by
  refine (Finset.card_le_univ _).trans ?_
  rw [← Fintype.card_congr (laneEquiv ![N]), Fintype.card_fin]; exact le_refl _

/-- The next `w` words: as many more as lanes of the vector read there that are `b`. -/
theorem count_add {N w : ℕ} (s : (⟨1, ![N]⟩ : Shape).Idx → BitVec 32) (n b : ℕ) (hn : n + w ≤ N) (v : (⟨1, ![w]⟩ : Shape).Idx → BitVec 32)
    (hv : ∀ (x : (⟨1, ![w]⟩ : Shape).Idx) (j : (⟨1, ![N]⟩ : Shape).Idx), (j 0).val = n + (x 0).val → v x = s j) :
    count s (n + w) b = count s n b + (Finset.univ.filter fun x => (v x).toNat = b).card := by
  unfold count
  have hj : ∀ x : (⟨1, ![w]⟩ : Shape).Idx, n + (x 0).val < N := fun x => by
    have : (x 0).val < w := (x 0).isLt
    omega
  let e : (⟨1, ![w]⟩ : Shape).Idx → (⟨1, ![N]⟩ : Shape).Idx := fun x => Shape.ofLane (d := ![N]) ⟨n + (x 0).val, hj x⟩
  have he : Function.Injective e := by
    intro x y hxy
    have : n + (x 0).val = n + (y 0).val := congrArg (fun z : (⟨1, ![N]⟩ : Shape).Idx => (z 0).val) hxy
    funext a; obtain rfl := Fin.eq_zero a; exact Fin.ext (by omega)
  rw [← Finset.card_map ⟨e, he⟩, ← Finset.card_union_of_disjoint]
  · congr 1
    ext j
    simp only [Finset.mem_filter, Finset.mem_univ, true_and, Finset.mem_union, Finset.mem_map, Function.Embedding.coeFn_mk]
    constructor
    · rintro ⟨h1, h2⟩
      by_cases hlt : (j 0).val < n
      · exact .inl ⟨hlt, h2⟩
      · refine .inr ⟨Shape.ofLane (d := ![w]) ⟨(j 0).val - n, show (j 0).val - n < w by omega⟩, ?_, ?_⟩
        · rw [hv _ j (show (j 0).val = n + ((j 0).val - n) by omega)]; exact h2
        · funext a; obtain rfl := Fin.eq_zero a; exact Fin.ext (show n + ((j 0).val - n) = (j 0).val by omega)
    · rintro (⟨h1, h2⟩ | ⟨x, hx, rfl⟩)
      · exact ⟨by omega, h2⟩
      · have : (x 0).val < w := (x 0).isLt
        exact ⟨show n + (x 0).val < n + w by omega, by rw [← hv x (e x) rfl]; exact hx⟩
  · rw [Finset.disjoint_left]
    intro j hj1 hj2
    obtain ⟨x, _, rfl⟩ := Finset.mem_map.mp hj2
    have : n + (x 0).val < n := (Finset.mem_filter.mp hj1).2.1
    omega

/-- The base holds the histogram of the first `n` words of `s`. -/
def Counts {N M : ℕ} (s : (⟨1, ![N]⟩ : Shape).Idx → BitVec 32) (n : ℕ) (c : (⟨1, ![M]⟩ : Shape).Idx → BitVec 32) : Prop :=
  ∀ b, c b = BitVec.ofNat 32 (count s n (b 0).val)

/-- One counting scatter of the next `w` words carries the histogram on. -/
theorem Counts.step {N M w : ℕ} (hM : M ≤ 2 ^ 32) {s : (⟨1, ![N]⟩ : Shape).Idx → BitVec 32} {n : ℕ} {c : (⟨1, ![M]⟩ : Shape).Idx → BitVec 32}
    (hc : Counts s n c) (hn : n + w ≤ N) (v : IVec ⟨1, ![w]⟩ 32)
    (hv : ∀ (x : (⟨1, ![w]⟩ : Shape).Idx) (j : (⟨1, ![N]⟩ : Shape).Idx), (j 0).val = n + (x 0).val → v x = s j)
    (h : ∀ (a : Fin 1) (x : (⟨1, ![w]⟩ : Shape).Idx), ((![v] : Fin 1 → IVec ⟨1, ![w]⟩ 32) a x).toNat < (⟨1, ![M]⟩ : Shape).size a) :
    Counts s (n + w) (storeIdx (F := F) (s := ⟨1, ![M]⟩) (e := .i32) c ![v] (scanCount (fun _ => 1) v).2 (scanCount (fun _ => 1) v).1 true h) := by
  intro b
  rw [storeIdx_scanCount hM, hc b, count_add s n _ hn v hv, BitVec.ofNat_add]

/-- A base of zeros is the histogram of no words. -/
theorem Counts.start {N M : ℕ} (s : (⟨1, ![N]⟩ : Shape).Idx → BitVec 32) {c : (⟨1, ![M]⟩ : Shape).Idx → BitVec 32} (hc : ∀ b, c b = 0#32) : Counts s 0 c := by
  intro b; rw [hc b, count_zero]

end Cert.Proof.Hist

end
-- ==== Proof.Task.lean ====
/-
  The counting task of the SparseCore kernel, run once at symbolic coordinates and over any float values: tile `(c, s)`
  of the grid handles table `k = 2 s + c` when there is one (`k < 26`). It starts the copy of row `k` of the indices
  into its scratch, zeroes its word array while the copy flies, waits, and passes over the row sixteen indices at a
  time, each time a counting scatter; the word array then holds the row's histogram, which it copies to slice `k` of
  the result.
-/
module

public import proofs.«01_k».proof.Defs
public import proofs.«01_k».proof.Proof.Hist
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.ValueIdxCore
public import proofs.«01_k».proof.Proof.Gen.KernelIdeal
public import proofs.«01_k».proof.Proof.Gen.KernelIdeal.Skeleton

@[expose] public section

noncomputable section

namespace Cert.Proof.Task

open Cert.KernelIdeal Cert.KernelIdeal.Gen
open Cert.Proof.Hist

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 eq_ix2)

variable {F : FTy → Type}

/-! ## The program as the launch theorem sees it -/

/-- The labels under the SparseCore call: the kernels' and the pipeline's. -/
abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds, the pipeline's, and the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ)

-- the kernel's memrefs, spelt as its table passes them
local notation "iW" => (Memref.whole Cert.KernelIdeal.main_arg1_scv : Memref Cert.KernelIdeal.sig Kind.scVector Space.hbm Cert.KernelIdeal.S26x16384 EltTy.i32)
local notation "oW" => (Memref.whole Cert.KernelIdeal.main_v1_scv : Memref Cert.KernelIdeal.sig Kind.scVector Space.hbm Cert.KernelIdeal.S2662400 EltTy.i32)
local notation "sW" => (Memref.whole Cert.KernelIdeal.cc0_scratch0 : Memref Cert.KernelIdeal.sig Kind.scVector Space.vmem Cert.KernelIdeal.S16384 EltTy.i32)
local notation "cW" => (Memref.whole Cert.KernelIdeal.cc0_scratch1 : Memref Cert.KernelIdeal.sig Kind.scVector Space.vmem Cert.KernelIdeal.S102400 EltTy.i32)

/-- The indices and the counts, as locations of device `d`. -/
abbrev iLoc (d : Dev nD) : Loc nD τ sig := (SparseCore.T d).loc main_arg1
abbrev oLoc (d : Dev nD) : Loc nD τ sig := (SparseCore.T d).loc main_v1

/-- Row `k` of an index array. -/
def rowOf (a : S26x16384.Idx → BitVec 32) (k : Fin 26) : S16384.Idx → BitVec 32 := fun x => a (ix2 k (x 0))

/-- The places of row `k` of the indices, and of slice `k` of the counts (none from `k = 26` on). -/
def rowSet (k : ℕ) : Finset S26x16384.Idx := Finset.univ.filter fun j => (j 0).val = k
def sliceSet (k : ℕ) : Finset S2662400.Idx := Finset.univ.filter fun j => (j 0).val / 102400 = k

/-- The table whose slice the place `j` of the counts lies in. -/
def tableOf (j : S2662400.Idx) : Fin 26 := ⟨(j 0).val / 102400, by
  have h : (j 0).val < 2662400 := (j 0).isLt
  omega⟩

/-- The counts of every table: at place `102400 k + b`, how many words of row `k` are `b`. -/
def histo (a : S26x16384.Idx → BitVec 32) : S2662400.Idx → BitVec 32 :=
  fun j => BitVec.ofNat 32 (count (rowOf a (tableOf j)) 16384 ((j 0).val % 102400))

/-- What the proof asks of the launch memory: every index is below 100000. -/
def PreOK : Prop := ∀ (d : Dev nD) (j : S26x16384.Idx), (m (iLoc d) j : BitVec 32).toNat < 100000

/-! ## The task -/

section Tile

variable [FloatOps F] (d : Dev nD) (L : grid0.Coords)

abbrev cV (L : grid0.Coords) : Fin τ.nSC := (L 0).castLE hcore0
abbrev jV (L : grid0.Coords) : Fin τ.nSub := (L 1).castLE hsub0
/-- The tile's thread, and the table it handles. -/
abbrev thr (d : Dev nD) (L : grid0.Coords) : Thread nD τ := V d (cV L) (jV L)
abbrev tab (L : grid0.Coords) : ℕ := 2 * (L 1).val + (L 0).val

omit [FloatOps F] in
theorem cond1_iff : k0_cond1 L = 1#1 ↔ tab L < 26 := by
  decide +revert

/-- The first `n` words are zero. -/
def ZeroTo (n : ℕ) (f : S102400.Idx → BitVec 32) : Prop := ∀ b, (b 0).val < n → f b = 0#32

omit [FloatOps F] in
/-- Sixteen zeros stored at `n` carry the zeroed stretch on. -/
theorem ZeroTo.step {n : ℕ} {f : S102400.Idx → BitVec 32} (hf : ZeroTo n f) {off : Fin 1 → ℕ} (inb : ∀ a, off a + S16.size a ≤ S102400.size a)
    (hoff : off 0 = n) (w : S16.Idx → BitVec 32) (hw : ∀ x, w x = 0#32) :
    ZeroTo (n + 16) (((cW).access (Rect.unit (s := S102400) off S16.size inb)).write (Elt F) f w Finset.univ) := by
  intro b hb
  by_cases hx : n ≤ (b 0).val
  · let x : S16.Idx := Shape.ofLane (d := ![16]) ⟨(b 0).val - n, show (b 0).val - n < 16 by omega⟩
    have he : ((cW).access (Rect.unit (s := S102400) off S16.size inb)).emb x = b := by
      funext a; obtain rfl := Fin.eq_zero a
      refine Fin.ext ?_
      show off 0 + 1 * ((b 0).val - n) = (b 0).val
      omega
    rw [← he]
    exact (View.write_emb_of_mem (Val := Elt F) _ _ (Finset.mem_univ x)).trans (hw x)
  · rw [View.write_of_not_mem]
    · exact hf b (by omega)
    · intro hmem
      obtain ⟨x, _, hx'⟩ := Finset.mem_map.mp hmem
      have : off 0 + 1 * (x 0).val = (b 0).val := congrArg (fun z : S102400.Idx => (z 0).val) hx'
      omega

/-- The tile's word array at `f`, and its copy of the row at `g`. -/
abbrev cPts (f : S102400.Idx → BitVec 32) : sProp 𝕄 := (cW).view.loc (thr d L) ↦{fullShare} f
abbrev sPts (g : S16384.Idx → BitVec 32) : sProp 𝕄 := (sW).view.loc (thr d L) ↦{fullShare} g

/-- The word array with its first `n` words zero; with the histogram of the first `n` words of `s`. -/
def zeroed (n : ℕ) : sProp 𝕄 := iprop(∃ f, ⌜ZeroTo n f⌝ ∗ cPts (F := F) d L f)
def counted (s : S16384.Idx → BitVec 32) (n : ℕ) : sProp 𝕄 := iprop(∃ f, ⌜Counts s n f⌝ ∗ cPts (F := F) d L f)

/-- The vector `v` holds the sixteen words of `s` from `n` on. -/
def Reads (s : S16384.Idx → BitVec 32) (n : ℕ) (v : S16.Idx → BitVec 32) : Prop :=
  ∀ (x : S16.Idx) (j : S16384.Idx), (j 0).val = n + (x 0).val → v x = s j

/-- One vector of the zeroing loop: the load whose value nothing reads, and the store of zeros. -/
theorem wp_zero {α : Type} {Q : α → sProp 𝕄} (t : Fin k0_t1_loop.trips) (r : Fin 8) (h1 : k0_cond1 L = 1#1) {hl} {hx} {hm}
    {k : PUnit → Prog (TpuEff nD τ sig (Elt F) Λ₀ (thr d L).2) α} :
    zeroed (F := F) d L (128 * t.val + 16 * r.val)
      ⊢ iprop((zeroed (F := F) d L (128 * t.val + 16 * (r.val + 1)) -∗ wp frame (wpE (defs₀ (F := F)) 𝒱₀ (thr d L) none) Set.univ (k ⟨⟩) Q)
        -∗ wp frame (wpE (defs₀ (F := F)) 𝒱₀ (thr d L) none) Set.univ
          (.op (.load (cW) (Rect.unit (s := S102400) (k0_off2 t (BitVec.ofNat 32 r.val)) S16.size (k0_off2_inb L t h1 r)).toLoadRect hl) fun _ =>
            .op (.store (cW) (Rect.unit (s := S102400) (k0_off2 t (BitVec.ofNat 32 r.val)) S16.size (k0_off2_inb L t h1 r)) k0_pay1 Finset.univ hx hm) k) Q) := by
  unfold zeroed
  iintro ⟨%f, %hf, Hc⟩ Hk
  iapply (wp_load 𝒱₀ (thr d L) none Set.univ (m := cW) (S := Finset.univ) (Finset.subset_univ _)) $$ Hc; iintro Hc
  iapply (wp_store 𝒱₀ (thr d L) none Set.univ (m := cW) (r := Rect.unit (s := S102400) (k0_off2 t (BitVec.ofNat 32 r.val)) S16.size (k0_off2_inb L t h1 r))
    (Mk := Finset.univ) (S := Finset.univ) (Finset.subset_univ _)) $$ Hc; iintro Hc
  iapply Hk
  iexists _; isplitr
  · ipureintro
    exact ZeroTo.step (F := F) hf (k0_off2_inb L t h1 r) (by rw [k0_off2_eq]; rfl) k0_pay1 fun _ => rfl
  · iexact Hc

/-- One vector of the counting loop read from the tile's copy of the row. -/
theorem wp_fetch {α : Type} {Q : α → sProp 𝕄} (s : S16384.Idx → BitVec 32) (t : Fin k0_t2_loop.trips) (r : Fin 8) (h1 : k0_cond1 L = 1#1) {hl}
    {k : (S16.Idx → BitVec 32) → Prog (TpuEff nD τ sig (Elt F) Λ₀ (thr d L).2) α} :
    sPts (F := F) d L s
      ⊢ iprop((∀ v, ⌜Reads s (128 * t.val + 16 * r.val) v⌝ -∗ sPts (F := F) d L s -∗ wp frame (wpE (defs₀ (F := F)) 𝒱₀ (thr d L) none) Set.univ (k v) Q)
        -∗ wp frame (wpE (defs₀ (F := F)) 𝒱₀ (thr d L) none) Set.univ
          (.op (.load (sW) (Rect.unit (s := S16384) (k0_off3 t (BitVec.ofNat 32 r.val)) S16.size (k0_off3_inb L t h1 r)).toLoadRect hl) k) Q) := by
  iintro Hs Hk
  iapply (wp_load 𝒱₀ (thr d L) none Set.univ (m := sW) (S := Finset.univ) (Finset.subset_univ _)) $$ Hs; iintro Hs
  iapply Hk $$ [] Hs
  ipureintro
  intro x j hj
  rw [View.readAt_apply]
  refine congrArg s ?_
  funext a; obtain rfl := Fin.eq_zero a
  refine Fin.ext ?_
  show k0_off3 t (BitVec.ofNat 32 r.val) 0 + 1 * (x 0).val = (j 0).val
  rw [k0_off3_eq, hj]
  show 128 * t.val + 16 * r.val + 1 * (x 0).val = _
  omega

/-- The word array as a store at indices leaves it, spelt as the array at its new contents. -/
theorem pts_stored (f w : S102400.Idx → BitVec 32) :
    ((((cW).access (.whole S102400)).loc (thr d L) ↦[((cW).access (.whole S102400)).set]{fullShare}
        ((cW).access (.whole S102400)).write (Elt F) f w Finset.univ) : sProp 𝕄) = cPts (F := F) d L w := by
  rw [show ((cW).access (.whole S102400)).set = Finset.univ from Memref.set_access_whole (cc0_scratch1 : Ref sig .scVector)]
  exact congrArg (fun g : S102400.Idx → BitVec 32 => cPts (F := F) d L g) (Memref.write_access_whole_univ (Elt F) (cc0_scratch1 : Ref sig .scVector) f w)

/-- One counting scatter. -/
theorem wp_count {α : Type} {Q : α → sProp 𝕄} {s : S16384.Idx → BitVec 32} {n : ℕ} (hn : n + 16 ≤ 16384) {v : S16.Idx → BitVec 32} (hv : Reads s n v)
    {w : IVec S16 32} {mask : IVec S16 1} (hw : w = (scanCount (fun _ => 1) v).2) (hmask : mask = (scanCount (fun _ => 1) v).1) {h} {hs}
    {k : PUnit → Prog (TpuEff nD τ sig (Elt F) Λ₀ (thr d L).2) α} :
    counted (F := F) d L s n
      ⊢ iprop((counted (F := F) d L s (n + 16) -∗ wp frame (wpE (defs₀ (F := F)) 𝒱₀ (thr d L) none) Set.univ (k ⟨⟩) Q)
        -∗ wp frame (wpE (defs₀ (F := F)) 𝒱₀ (thr d L) none) Set.univ
          (SparseCore.vectorStoreIdx (cW) ![v] w mask true h hs >>= k) Q) := by
  subst hw; subst hmask
  unfold counted
  iintro ⟨%f, %hf, Hc⟩ Hk
  ihave Hc' := (Entails.of_eq (show (cPts (F := F) d L f : sProp 𝕄)
    = (((cW).access (.whole S102400)).loc (thr d L) ↦[((cW).access (.whole S102400)).set]{fullShare} f) from by
      rw [show ((cW).access (.whole S102400)).set = Finset.univ from Memref.set_access_whole (cc0_scratch1 : Ref sig .scVector)])) $$ Hc
  iapply (SparseCore.wp_vectorStoreIdx 𝒱₀ (thr d L) none Set.univ (base := cW)) $$ Hc'; iintro Hc
  ihave Hc := (Entails.of_eq (pts_stored (F := F) d L f _)) $$ Hc
  iapply Hk
  iexists _; isplitr
  · ipureintro
    have e := Memref.read_access_whole (Elt F) (cc0_scratch1 : Ref sig .scVector) f
    exact e.symm ▸ Counts.step (F := F) (by decide) hf hn v hv h
  · iexact Hc

/-- A trip of the zeroing loop zeroes 128 words. -/
theorem zero_trip (t : Fin k0_t1_loop.trips) (acc : BitVec 32) (h1 : k0_cond1 L = 1#1) :
    zeroed (F := F) d L (128 * t.val)
      ⊢ wp frame (wpE (defs₀ (F := F)) 𝒱₀ (thr d L) none) Set.univ
          (k0_t1_body L iW (Memref.isWhole_whole _) oW (Memref.isWhole_whole _) sW (Memref.isWhole_whole _) cW (Memref.isWhole_whole _)
            cc0_scratch2 cc0_scoped0 h1 t acc)
          fun _ => zeroed (F := F) d L (128 * (t.val + 1)) := by
  unfold k0_t1_body
  simp only [k0_part1_eq_skeleton, k0_part1_skel, Prog.lift, Prog.bind_op, Prog.bind_ret, Prog.pure_eq_ret]
  iintro H
  iapply (wp_zero (F := F) d L t 0 h1) $$ H; iintro H
  iapply (wp_zero (F := F) d L t 1 h1) $$ H; iintro H
  iapply (wp_zero (F := F) d L t 2 h1) $$ H; iintro H
  iapply (wp_zero (F := F) d L t 3 h1) $$ H; iintro H
  iapply (wp_zero (F := F) d L t 4 h1) $$ H; iintro H
  iapply (wp_zero (F := F) d L t 5 h1) $$ H; iintro H
  iapply (wp_zero (F := F) d L t 6 h1) $$ H; iintro H
  iapply (wp_zero (F := F) d L t 7 h1) $$ H; iintro H
  sl_step
  iexact H

omit [FloatOps F] in
/-- A vector of indices below 100000 names words of the array. -/
theorem chk_of {s : S16384.Idx → BitVec 32} (hs : ∀ j, (s j).toNat < 100000) {n : ℕ} (hn : n + 16 ≤ 16384) {v : S16.Idx → BitVec 32} (hv : Reads s n v) :
    ∀ (a : Fin 1) (x : S16.Idx), ((![v] : Fin 1 → IVec S16 32) a x).toNat < S102400.size a := by
  intro a x
  obtain rfl := Fin.eq_zero a
  have hx : (x 0).val < 16 := (x 0).isLt
  show (v x).toNat < 102400
  rw [hv x (Shape.ofLane (d := ![16384]) ⟨n + (x 0).val, show n + (x 0).val < 16384 by omega⟩) rfl]
  exact (hs _).trans (by decide)

/-- A trip of the counting loop counts 128 more words. -/
theorem count_trip (s : S16384.Idx → BitVec 32) (hs : ∀ j, (s j).toNat < 100000) (t : Fin k0_t2_loop.trips) (acc : BitVec 32) (h1 : k0_cond1 L = 1#1) :
    iprop(sPts (F := F) d L s ∗ counted (F := F) d L s (128 * t.val))
      ⊢ wp frame (wpE (defs₀ (F := F)) 𝒱₀ (thr d L) none) Set.univ
          (k0_t2_body L iW (Memref.isWhole_whole _) oW (Memref.isWhole_whole _) sW (Memref.isWhole_whole _) cW (Memref.isWhole_whole _)
            cc0_scratch2 cc0_scoped0 h1 t acc)
          fun _ => iprop(sPts (F := F) d L s ∗ counted (F := F) d L s (128 * (t.val + 1))) := by
  unfold k0_t2_body
  simp only [k0_part2_eq_skeleton, k0_part2_skel, Prog.lift, Prog.bind_op, Prog.bind_ret, Prog.pure_eq_ret]
  have ht : t.val < 128 := t.isLt
  iintro ⟨Hs, H⟩
  iapply (wp_fetch (F := F) d L s t 0 h1) $$ Hs; iintro %v0 %hv0 Hs
  rw [wp_assume_of _ _ _ _ (show k0_chk1 L v0 from fun _ => chk_of hs (by simp; omega) hv0)]
  iapply (wp_fetch (F := F) d L s t 1 h1) $$ Hs; iintro %v1 %hv1 Hs
  rw [wp_assume_of _ _ _ _ (show k0_chk2 L v1 from fun _ => chk_of hs (by simp; omega) hv1)]
  iapply (wp_fetch (F := F) d L s t 2 h1) $$ Hs; iintro %v2 %hv2 Hs
  rw [wp_assume_of _ _ _ _ (show k0_chk3 L v2 from fun _ => chk_of hs (by simp; omega) hv2)]
  iapply (wp_fetch (F := F) d L s t 3 h1) $$ Hs; iintro %v3 %hv3 Hs
  rw [wp_assume_of _ _ _ _ (show k0_chk4 L v3 from fun _ => chk_of hs (by simp; omega) hv3)]
  iapply (wp_fetch (F := F) d L s t 4 h1) $$ Hs; iintro %v4 %hv4 Hs
  rw [wp_assume_of _ _ _ _ (show k0_chk5 L v4 from fun _ => chk_of hs (by simp; omega) hv4)]
  iapply (wp_fetch (F := F) d L s t 5 h1) $$ Hs; iintro %v5 %hv5 Hs
  rw [wp_assume_of _ _ _ _ (show k0_chk6 L v5 from fun _ => chk_of hs (by simp; omega) hv5)]
  iapply (wp_fetch (F := F) d L s t 6 h1) $$ Hs; iintro %v6 %hv6 Hs
  rw [wp_assume_of _ _ _ _ (show k0_chk7 L v6 from fun _ => chk_of hs (by simp; omega) hv6)]
  iapply (wp_fetch (F := F) d L s t 7 h1) $$ Hs; iintro %v7 %hv7 Hs
  rw [wp_assume_of _ _ _ _ (show k0_chk8 L v7 from fun _ => chk_of hs (by simp; omega) hv7)]
  iapply (wp_count (F := F) d L (by simp; omega) hv0 rfl rfl) $$ H; iintro H
  iapply (wp_count (F := F) d L (by simp; omega) hv1 rfl rfl) $$ H; iintro H
  iapply (wp_count (F := F) d L (by simp; omega) hv2 rfl rfl) $$ H; iintro H
  iapply (wp_count (F := F) d L (by simp; omega) hv3 rfl rfl) $$ H; iintro H
  iapply (wp_count (F := F) d L (by simp; omega) hv4 rfl rfl) $$ H; iintro H
  iapply (wp_count (F := F) d L (by simp; omega) hv5 rfl rfl) $$ H; iintro H
  iapply (wp_count (F := F) d L (by simp; omega) hv6 rfl rfl) $$ H; iintro H
  iapply (wp_count (F := F) d L (by simp; omega) hv7 rfl rfl) $$ H; iintro H
  sl_step
  isplitl [Hs]; · iexact Hs
  iexact H

/-- What the tile is handed: row `tab L` of the indices at the launch contents, and slice `tab L` of the counts at `f`. -/
abbrev iRowPts (k : ℕ) : sProp 𝕄 := iLoc d ↦[rowSet k]{fullShare} m (iLoc d)
abbrev oSlicePts (k : ℕ) (f : S2662400.Idx → BitVec 32) : sProp 𝕄 := oLoc d ↦[sliceSet k]{fullShare} f

/-- The row and the slice as the task's memrefs address them. -/
abbrev iRow (h1 : k0_cond1 L = 1#1) : Memref sig .scVector .hbm S16384 .i32 :=
  ((iW).slice (Rect.unit (s := S26x16384) (k0_off1 L) S1x16384.size (k0_off1_inb L h1)) (fun _ => rfl)).squeeze S16384 squeezes_S1x16384_S16384
abbrev oSlice (h1 : k0_cond1 L = 1#1) : Memref sig .scVector .hbm S102400 .i32 :=
  (oW).slice (Rect.unit (s := S2662400) (k0_off4 L) S102400.size (k0_off4_inb L h1)) (fun _ => rfl)

omit [FloatOps F] in
theorem set_iRow (h1 : k0_cond1 L = 1#1) : (iRow L h1).view.set = rowSet (tab L) := by
  show (((iW).view.slice (Rect.unit (s := S26x16384) (k0_off1 L) S1x16384.size (k0_off1_inb L h1))).reshape S16384 squeezes_S1x16384_S16384.numel_eq).set = _
  rw [View.set_reshape, show ((iW).view.slice (Rect.unit (s := S26x16384) (k0_off1 L) S1x16384.size (k0_off1_inb L h1))).set
    = (Rect.unit (s := S26x16384) (k0_off1 L) S1x16384.size (k0_off1_inb L h1)).set from View.set_slice_whole _ _]
  ext j
  rw [Rect.mem_set_unit]
  simp only [rowSet, Finset.mem_filter, Finset.mem_univ, true_and, k0_off1_eq]
  have hj1 : (j 1).val < 16384 := (j 1).isLt
  constructor
  · intro h
    have h0 : 2 * (L 1).val + (L 0).val ≤ (j 0).val ∧ (j 0).val < 2 * (L 1).val + (L 0).val + 1 := h 0
    show (j 0).val = 2 * (L 1).val + (L 0).val
    omega
  · intro h a
    have h' : (j 0).val = 2 * (L 1).val + (L 0).val := h
    match a with
    | 0 => exact (show 2 * (L 1).val + (L 0).val ≤ (j 0).val ∧ (j 0).val < 2 * (L 1).val + (L 0).val + 1 by omega)
    | 1 => exact (show 0 ≤ (j 1).val ∧ (j 1).val < 0 + 16384 by omega)

omit [FloatOps F] in
theorem set_oSlice (h1 : k0_cond1 L = 1#1) : (oSlice L h1).view.set = sliceSet (tab L) := by
  rw [show (oSlice L h1).view.set = (Rect.unit (s := S2662400) (k0_off4 L) S102400.size (k0_off4_inb L h1)).set from View.set_slice_whole _ _]
  ext j
  rw [Rect.mem_set_unit]
  simp only [sliceSet, Finset.mem_filter, Finset.mem_univ, true_and, k0_off4_eq]
  constructor
  · intro h
    have h0 : 204800 * (L 1).val + 102400 * (L 0).val ≤ (j 0).val ∧ (j 0).val < 204800 * (L 1).val + 102400 * (L 0).val + 102400 := h 0
    show (j 0).val / 102400 = 2 * (L 1).val + (L 0).val
    omega
  · intro h a
    have h' : (j 0).val / 102400 = 2 * (L 1).val + (L 0).val := h
    obtain rfl := Fin.eq_zero a
    exact (show 204800 * (L 1).val + 102400 * (L 0).val ≤ (j 0).val ∧ (j 0).val < 204800 * (L 1).val + 102400 * (L 0).val + 102400 by omega)

omit [FloatOps F] in
theorem pts_iRow (h1 : k0_cond1 L = 1#1) (f : Buf (Elt F) (iLoc d)) :
    ((iRow L h1).view.loc (thr d L) ↦[(iRow L h1).view.set]{fullShare} f : sProp 𝕄) = iLoc d ↦[rowSet (tab L)]{fullShare} f := by
  rw [set_iRow]
omit [FloatOps F] in
theorem pts_oSlice (h1 : k0_cond1 L = 1#1) (f : Buf (Elt F) (oLoc d)) :
    ((oSlice L h1).view.loc (thr d L) ↦[(oSlice L h1).view.set]{fullShare} f : sProp 𝕄) = oLoc d ↦[sliceSet (tab L)]{fullShare} f := by
  rw [set_oSlice]

/-- The two semaphores of the task among the subcore's, and the two scratch buffers among its buffers. -/
abbrev fetchCell : GSem nD τ sig := (thr d L, .dma cc0_scratch2.sem)
abbrev storeCell : GSem nD τ sig := (thr d L, .dma cc0_scoped0.sem)

omit [FloatOps F] in
theorem ownSems0_V :
    (ownSems0 (thr d L) : sProp 𝕄)
      = iprop(semVal (fetchCell d L) 0 ∗ semVal (storeCell d L) 0
          ∗ bigSep (((ownCells (thr d L)).erase (fetchCell d L)).erase (storeCell d L)) fun g => semVal g 0) := by
  unfold SparseCore.Cfg.ownSems0
  rw [SparseCore.bigSep_erase' ((mem_ownCells (g := fetchCell d L)).mpr ⟨rfl, by
      show (SemLoc.dma cc0_scratch2.sem : SemLoc sig).isScoped .scVector = true; decide⟩),
    SparseCore.bigSep_erase' (Finset.mem_erase.mpr ⟨by simp [fetchCell, storeCell]; decide, (mem_ownCells (g := storeCell d L)).mpr ⟨rfl, by
      show (SemLoc.dma cc0_scoped0.sem : SemLoc sig).isScoped .scVector = true; decide⟩⟩)]

omit [FloatOps F] in
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- The fetch leaves row `k` of the indices in the tile's copy. -/
theorem fetch_lands (h1 : k0_cond1 L = 1#1) (fs : S16384.Idx → BitVec 32) :
    (sW).view.write (Elt F) fs ((iRow L h1).view.read (Elt F) (m (iLoc d))) Finset.univ
      = rowOf (m (iLoc d)) ⟨tab L, (cond1_iff L).mp h1⟩ := by
  refine (View.write_whole_univ _ _ _).trans ?_
  funext x
  rw [View.read_apply]
  refine (cast_eq _ _).trans (congrArg (m (iLoc d)) ?_)
  have hr : Shape.reshapeEquiv (s := S1x16384) (s' := S16384) squeezes_S1x16384_S16384.numel_eq x = (ix2 (0 : Fin 1) (x 0 : Fin 16384) : S1x16384.Idx) :=
    Shape.reshapeEquiv_eq_of_rowMajor _ (by
      rw [Shape.rowMajor_val_two, Shape.rowMajor_val_one]
      show 0 * 16384 + (x 0).val = (x 0).val
      omega)
  show (Rect.unit (s := S26x16384) (k0_off1 L) S1x16384.size (k0_off1_inb L h1)).emb
    (Shape.reshapeEquiv (s := S1x16384) (s' := S16384) squeezes_S1x16384_S16384.numel_eq x) = _
  rw [hr]
  funext a
  refine Fin.ext ?_
  match a with
  | 0 =>
    show k0_off1 L 0 + 1 * 0 = tab L
    rw [k0_off1_eq]; rfl
  | 1 =>
    show k0_off1 L 1 + 1 * (x 0).val = (x 0).val
    rw [k0_off1_eq]
    show 0 + 1 * (x 0).val = (x 0).val
    omega

omit [FloatOps F] in
/-- The copy out of a finished histogram leaves slice `tab L` of the counts of every table. -/
theorem store_lands (h1 : k0_cond1 L = 1#1) {f : S102400.Idx → BitVec 32} (hf : Counts (rowOf (m (iLoc d)) ⟨tab L, (cond1_iff L).mp h1⟩) 16384 f)
    (f₀ : S2662400.Idx → BitVec 32) :
    ∀ j ∈ sliceSet (tab L), (oSlice L h1).view.writes (Elt F) f₀ [⟨Rect.whole S102400, f⟩] j = histo (m (iLoc d)) j := by
  intro j hj
  have hj' : (j 0).val / 102400 = 2 * (L 1).val + (L 0).val := (Finset.mem_filter.mp hj).2
  let x : S102400.Idx := Shape.ofLane (d := ![102400]) ⟨(j 0).val % 102400, show (j 0).val % 102400 < 102400 from Nat.mod_lt _ (by decide)⟩
  have he : ((oSlice L h1).view.slice (Rect.whole S102400)).emb x = j := by
    funext a; obtain rfl := Fin.eq_zero a
    refine Fin.ext ?_
    show k0_off4 L 0 + 1 * (0 + 1 * ((j 0).val % 102400)) = (j 0).val
    rw [k0_off4_eq]
    show 204800 * (L 1).val + 102400 * (L 0).val + 1 * (0 + 1 * ((j 0).val % 102400)) = (j 0).val
    omega
  rw [← he, View.writes_cons]
  refine (View.write_emb_of_mem (Val := Elt F) _ _ (Finset.mem_univ x)).trans ?_
  rw [he]
  show f x = _
  rw [hf x]
  unfold histo
  rw [show tableOf j = ⟨tab L, (cond1_iff L).mp h1⟩ from Fin.ext hj']
  rfl

/-- The task of a tile that handles a table. -/
theorem tile_body (hF : (K (F := F)).Facts) (hpre : PreOK m) (h1 : k0_cond1 L = 1#1) (f₀ : S2662400.Idx → BitVec 32)
    (O : CellTallies nD τ sig (HIx 1)) (W : Waits sig (HIx 1)) (hO : ∀ g, O g none = 0) :
    iprop(levAts (K (F := F)).L (K (F := F)).lev ∗ emp ∗ (iRowPts m d (tab L) ∗ oSlicePts (F := F) d (tab L) f₀)
        ∗ scopedBufs (thr d L) ∗ scopedSems0 (thr d L) ∗ owes (thr d L) O W)
      ⊢ wp frame (wpE (defs₀ (F := F)) 𝒱₀ (thr d L) none) Set.univ
          (cc0__sc_hist_body L iW (Memref.isWhole_whole _) oW (Memref.isWhole_whole _) sW (Memref.isWhole_whole _) cW (Memref.isWhole_whole _)
            cc0_scratch2 cc0_scoped0)
          fun _ => iprop((iRowPts m d (tab L) ∗ oSlicePts (F := F) d (tab L) (histo (m (iLoc d)))) ∗ scopedBufs (thr d L) ∗ scopedSems0 (thr d L)
            ∗ ∃ W', ⌜∀ p ∈ W', p ∈ W ∨ p.2 = none⌝ ∗ owes (thr d L) O W') := by
  have k0_h1 := h1
  simp only [cc0__sc_hist_body_eq_skeleton]; unfold cc0__sc_hist_body_skel
  rw [(K (F := F)).scopedBufs_V hF d (cV L) (jV L), SparseCore.Cfg.scopedSems0_V (Val := Elt F) d (cV L) (jV L), ownSems0_V, ownBufs_V]
  iintro ⟨#Hlv, -, ⟨Hi, Ho⟩, ⟨⟨%fs, Hs⟩, ⟨%fc, Hc⟩, Hbufs⟩, ⟨HsemA, HsemB, Hsems⟩, HO⟩
  ihave Hmw := ((K (F := F)).mayWaits_none (thr := thr d L) hO) $$ Hlv
  ihave Hi' := (Entails.of_eq (pts_iRow (F := F) d L h1 _).symm) $$ Hi
  ihave Ho' := (Entails.of_eq (pts_oSlice (F := F) d L h1 _).symm) $$ Ho
  ihave Hs' := (Entails.of_eq (show ((thr d L).loc cc0_scratch0 ↦{fullShare} fs : sProp 𝕄) = ((sW).view.loc (thr d L) ↦{fullShare} fs) from rfl)) $$ Hs
  sl_exec
  sl_for (fun k _ => zeroed (F := F) d L (128 * k)) $$ [Hc]
  case region =>
    intro k acc
    exact zero_trip (F := F) d L k acc h1
  · unfold zeroed
    iexists fc; isplitr
    · ipureintro; exact fun b hb => absurd hb (Nat.not_lt_zero _)
    · iexact Hc
  iintro %_ Hz
  sl_exec
  have hrow : (sW).view.write (Elt F) fs (tile_body.sl.dma0 m d L h1) Finset.univ = _ := fetch_lands (F := F) m d L h1 fs
  ihave Hs := (Entails.of_eq (congrArg (fun g : S16384.Idx → BitVec 32 => sPts (F := F) d L g) hrow)) $$ Hs'
  sl_for (fun k _ => iprop(sPts (F := F) d L (rowOf (m (iLoc d)) ⟨tab L, (cond1_iff L).mp h1⟩)
    ∗ counted (F := F) d L (rowOf (m (iLoc d)) ⟨tab L, (cond1_iff L).mp h1⟩) (128 * k))) $$ [Hs Hz]
  case region =>
    intro k acc
    exact count_trip (F := F) d L _ (fun j => hpre d _) k acc h1
  · isplitl [Hs]; · iexact Hs
    unfold zeroed counted
    icases Hz with ⟨%g, %hg, Hc⟩
    iexists g; isplitr
    · ipureintro
      exact Counts.start _ fun b => hg b (show (b 0).val < 102400 from (b 0).isLt)
    · iexact Hc
  unfold counted
  iintro %_ ⟨Hs, %f, %hf, Hc⟩
  sl_exec
  sl_step
  have hst : ∀ j ∈ sliceSet (tab L), (oSlice L h1).view.writes (Elt F) f₀ [⟨Rect.whole S102400, tile_body.sl.dma0_1 f⟩] j
      = histo (m (iLoc d)) j := store_lands (F := F) m d L h1 hf f₀
  ihave Ho := (Entails.of_eq ((pts_oSlice (F := F) d L h1 _).trans (pointsTo_congr hst))) $$ Ho'
  isplitl [Hi' Ho]
  · isplitl [Hi']
    · iapply (Entails.of_eq (pts_iRow (F := F) d L h1 _)); iexact Hi'
    · iexact Ho
  isplitl [Hs Hc Hbufs]
  · isplitl [Hs]; · iexists _; iexact Hs
    isplitl [Hc]; · iexists _; iexact Hc
    iexact Hbufs
  isplitl [HsemA HsemB Hsems]
  · isplitl [HsemA]; · iexact HsemA
    isplitl [HsemB]; · iexact HsemB
    iexact Hsems
  iexists _; isplitr
  rotate_left
  · iexact HO
  · ipureintro
    intro p hp
    rcases Finset.mem_insert.mp hp with hp | hp
    · exact .inr (hp ▸ rfl)
    rcases Finset.mem_insert.mp hp with hp | hp
    · exact .inr (hp ▸ rfl)
    · exact .inl hp

/-- The task of a tile that handles no table does nothing. -/
theorem tile_idle (h1 : ¬ k0_cond1 L = 1#1) (A : sProp 𝕄) (O : CellTallies nD τ sig (HIx 1)) (W : Waits sig (HIx 1)) :
    iprop(levAts (K (F := F)).L (K (F := F)).lev ∗ emp ∗ A ∗ scopedBufs (thr d L) ∗ scopedSems0 (thr d L) ∗ owes (thr d L) O W)
      ⊢ wp frame (wpE (defs₀ (F := F)) 𝒱₀ (thr d L) none) Set.univ
          (cc0__sc_hist_body L iW (Memref.isWhole_whole _) oW (Memref.isWhole_whole _) sW (Memref.isWhole_whole _) cW (Memref.isWhole_whole _)
            cc0_scratch2 cc0_scoped0)
          fun _ => iprop(A ∗ scopedBufs (thr d L) ∗ scopedSems0 (thr d L) ∗ ∃ W', ⌜∀ p ∈ W', p ∈ W ∨ p.2 = none⌝ ∗ owes (thr d L) O W') := by
  have k0_h1 := h1
  simp only [cc0__sc_hist_body_eq_skeleton]; unfold cc0__sc_hist_body_skel
  iintro ⟨-, -, Hst, Hsb, Hss, HO⟩
  sl_exec
  sl_step
  isplitl [Hst]; · iexact Hst
  isplitl [Hsb]; · iexact Hsb
  isplitl [Hss]; · iexact Hss
  iexists W; isplitr
  · ipureintro; exact fun p hp => .inl hp
  · iexact HO

end Tile

end Cert.Proof.Task

end
-- ==== Proof.Region.lean ====
/-
  The TensorCore region: at grid point `t` the body reads the counts of table `t` in eight stretches and the
  transposed table, and leaves in its output block the sixteen sums of products. Run once over any float values:
  the body's triple, the proof data of the pipeline, and the region as one step of the host program.
-/
module

public import proofs.«01_k».proof.Proof.Task
public import Idealize.ShloMosaic.Lib.Pipeline.FrameBody
public import Idealize.ShloMosaic.Lib.Pipeline.Value
public import Idealize.ShloMosaic.Lib.Pipeline.RegionArrays
public import proofs.«01_k».proof.Proof.Gen.KernelIdeal.Launch
public import proofs.«01_k».proof.Proof.Gen.KernelIdeal.Points

@[expose] public section

noncomputable section

namespace Cert.Proof.Region

open Cert.KernelIdeal Cert.KernelIdeal.Gen
open Cert.Proof.Task

open Idealize.ShloMosaic
open Idealize.ShloMosaic.SparseCore.Cfg (HIx)
open Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open TcCoe

variable {F : FTy → Type}

local notation "𝕄" => MT nD τ sig (HIx 1) (Elt F) ℕ UU ℕ

variable [FloatOps F] [∀ e, Nonempty (Elt F e)]

/-! ## The body -/

/-- The eight stretches of the counts the body reads, and the whole table block. -/
abbrev r0 : Rect S102400 := Rect.unit (s := S102400) ![0] S12800.size inb_S102400_S12800_0
abbrev r1 : Rect S102400 := Rect.unit (s := S102400) ![12800] S12800.size inb_S102400_S12800_12800
abbrev r2 : Rect S102400 := Rect.unit (s := S102400) ![25600] S12800.size inb_S102400_S12800_25600
abbrev r3 : Rect S102400 := Rect.unit (s := S102400) ![38400] S12800.size inb_S102400_S12800_38400
abbrev r4 : Rect S102400 := Rect.unit (s := S102400) ![51200] S12800.size inb_S102400_S12800_51200
abbrev r5 : Rect S102400 := Rect.unit (s := S102400) ![64000] S12800.size inb_S102400_S12800_64000
abbrev r6 : Rect S102400 := Rect.unit (s := S102400) ![76800] S12800.size inb_S102400_S12800_76800
abbrev r7 : Rect S102400 := Rect.unit (s := S102400) ![89600] S10400.size inb_S102400_S10400_89600
abbrev rT : Rect S1x16x100000 := Rect.unit (s := S1x16x100000) ![0, 0, 0] S1x16x100000.size inb_S1x16x100000_S1x16x100000_0_0_0
abbrev rO : Rect S1x1x16 := Rect.unit (s := S1x1x16) ![0, 0, 0] S1x1x16.size inb_S1x1x16_S1x1x16_0_0_0

/-- What the body leaves in its output block, from the counts `g` and the table block `x`. -/
def out (g : S102400.Idx → BitVec 32) (x : S1x16x100000.Idx → F .f32) : S1x1x16.Idx → F .f32 :=
  k1_pay1 (k1_pay2 (View.ld (Val := Elt F) (e' := .f32) x rT))
    (k1_pay3 (View.ld (Val := Elt F) (e' := .f32) x rT) (View.ld (Val := Elt F) (e' := .i32) g r0) (View.ld (Val := Elt F) (e' := .i32) g r1)
      (View.ld (Val := Elt F) (e' := .i32) g r2) (View.ld (Val := Elt F) (e' := .i32) g r3))
    (k1_pay4 (View.ld (Val := Elt F) (e' := .f32) x rT) (View.ld (Val := Elt F) (e' := .i32) g r4))
    (View.ld (Val := Elt F) (e' := .i32) g r5) (View.ld (Val := Elt F) (e' := .i32) g r6) (View.ld (Val := Elt F) (e' := .i32) g r7)

set_option maxHeartbeats 2000000 in
/-- The body on any three whole memrefs: the inputs are kept, the output block becomes `out` of them. -/
theorem body_triple (c : Dev nD) (E : Set ℕ) (i : grid1.Coords)
    (arg1 : Memref sig .tc .vmem S102400 .i32) (harg1 : arg1.IsWhole) (arg2 : Memref sig .tc .vmem S1x16x100000 .f32) (harg2 : arg2.IsWhole)
    (arg3 : Memref sig .tc .vmem S1x1x16 .f32) (harg3 : arg3.IsWhole)
    (g : S102400.Idx → BitVec 32) (x : S1x16x100000.Idx → F .f32) (Q : PUnit → sProp 𝕄) :
    iprop(owns c.tc arg1 fullShare g ∗ owns c.tc arg2 fullShare x ∗ (∃ d, owns c.tc arg3 fullShare d)
        ∗ (iprop(owns c.tc arg1 fullShare g ∗ owns c.tc arg2 fullShare x ∗ owns c.tc arg3 fullShare (out g x)) -∗ Q ⟨⟩))
      ⊢ wp frame (wpE (defs₀ (F := F)) Variants.none c.tc none) E (cc1__tc_body i arg1 harg1 arg2 harg2 arg3 harg3) Q := by
  simp only [cc1__tc_body_eq_skeleton]; unfold cc1__tc_body_skel
  simp only [k1_part1_eq_skeleton]; unfold k1_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr
    · ipureintro; rfl
    · iexact H0
  isplitl [H1]
  · iexists f1; isplitr
    · ipureintro; rfl
    · iexact H1
  iexists _; isplitr
  swap
  · iexact H2
  ipureintro
  refine (View.read_writes_eq_canon _ _ _ (View.cover_of_tiled _ S1x1x16.size (by rfl))).trans ?_
  exact View.canon_unit_zero (by funext a; fin_cases a <;> rfl) _ _

/-! ## The proof data: the arrays as the region finds them, the blocks each point reads and leaves -/

variable (W : Dev nD → Valuation τ sig (Elt F)) (b : ℕ)

/-- The block of window `w`'s array that point `t` is handed. -/
abbrev blk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (arrRef spec1 w)))

/-- The proof data on core `c`: inputs keep their blocks, the output block is `out` of them; the core owes nothing, and
    every wait it recorded lies at level `b` or below. -/
def dat (c : Dev nD) : Dat τ (Elt F) (HIx 1) ℕ UU ℕ cfg1 c where
  A w := W c (Proc.devRef .tc (arrRef spec1 w))
  after w t := match w with
    | 0 => blk W c 0 t
    | 1 => blk W c 1 t
    | 2 => out (blk W c 0 t) (blk W c 1 t)
    | ⟨_ + 3, h⟩ => absurd h (Nat.not_lt.2 (Nat.le_add_left _ _))
  Φ _ := scopedRest spec1 c
  q _ := fullShare
  owed _ := 0
  recorded _ := {p | (K (F := F)).lev (c.tc, p.1) p.2 ≤ b}

theorem dat_A (c : Dev nD) (w : Fin cfg1.W) : (dat W b c).A w = W c (Proc.devRef .tc (arrRef spec1 w)) := by dsimp only [dat]
theorem after_0 (c : Dev nD) (t : Fin cfg1.N) : (dat W b c).after 0 t = blk W c 0 t := by dsimp only [dat]
theorem after_1 (c : Dev nD) (t : Fin cfg1.N) : (dat W b c).after 1 t = blk W c 1 t := by dsimp only [dat]
theorem after_2 (c : Dev nD) (t : Fin cfg1.N) : (dat W b c).after 2 t = out (blk W c 0 t) (blk W c 1 t) := by dsimp only [dat]

/-- Each input's buffer holds its block at every point: it is fetched at every point. -/
theorem before_0 (c : Dev nD) (t : Fin cfg1.N) (d) : (dat W b c).before 0 t d = blk W c 0 t :=
  ((dat W b c).before_fetched 0 t (fetch1_0 t) d).trans (by show ((cfg1.win 0).blk t).view.read (Elt F) ((dat W b c).A 0) = _; rw [dat_A])
theorem before_1 (c : Dev nD) (t : Fin cfg1.N) (d) : (dat W b c).before 1 t d = blk W c 1 t :=
  ((dat W b c).before_fetched 1 t (fetch1_1 t) d).trans (by show ((cfg1.win 1).blk t).view.read (Elt F) ((dat W b c).A 1) = _; rw [dat_A])

/-- What the body is called with at point `t`, window by window, and what it returns. -/
def bodyPre (c : Dev nD) (t : Fin cfg1.N) : sProp 𝕄 :=
  iprop((dat W b c).Φ t.castSucc ∗ (dat W b c).owesAt none t.castSucc
    ∗ (∃ d, owns c.tc (st1_0 t) fullShare ((dat W b c).before 0 t d))
    ∗ (∃ d, owns c.tc (st1_1 t) fullShare ((dat W b c).before 1 t d))
    ∗ (∃ d, owns c.tc (st1_2 t) fullShare ((dat W b c).before 2 t d)))
def bodyPost (c : Dev nD) (t : Fin cfg1.N) : sProp 𝕄 :=
  iprop((dat W b c).Φ t.succ ∗ (dat W b c).owesAt none t.succ
    ∗ owns c.tc (st1_0 t) fullShare ((dat W b c).after 0 t)
    ∗ owns c.tc (st1_1 t) fullShare ((dat W b c).after 1 t)
    ∗ owns c.tc (st1_2 t) fullShare ((dat W b c).after 2 t))

/-- The body at any point, from the triple; the invariant and what the core owes pass through. -/
theorem body_at (c : Dev nD) (t : Fin cfg1.N) :
    bodyPre W b c t ⊢ wp frame (wpE (defs₀ (F := F)) Variants.none c.tc none) Set.univ (bodyAt1 t) (fun _ => bodyPost W b c t) := by
  unfold bodyPre bodyPost bodyAt1
  simp only [before_0, before_1]
  rw [show (dat W b c).Φ t.succ = (dat W b c).Φ t.castSucc from rfl,
    show (dat W b c).owesAt none t.succ = (dat W b c).owesAt none t.castSucc from rfl, after_0, after_1, after_2]
  iintro ⟨HΦ, Ho, ⟨%d0, H0⟩, ⟨%d1, H1⟩, ⟨%d2, H2⟩⟩
  iapply (body_triple c Set.univ (grid1.coords t) _ _ _ _ _ _ (blk W c 0 t) (blk W c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t` is the body there. -/
theorem defs₀_row (t : Fin cfg1.N) : defs₀ (F := F) .tc cfg1.body (cfg1.bodyArgs t (cfg1.slots t)) = bodyAt1 t := by
  rfl

theorem body_obligation (c : Dev nD) : BodyObligation (dat W b c) (defs₀ (F := F)) Variants.none none Set.univ := fun t => by
  rw [bigSep_W1, bigSep_W1, defs₀_row]
  exact triple_restated (body_at W b c t) rfl .rfl fun _ => .rfl

/-! ## The region -/

/-- The pipeline prefetches no table: nothing is asked of any. -/
abbrev adm : (p : Fin 1) → (pcfgs (F := F) p).Adm := fun p => (cfgs p).toPCfg_adm

def pdats : (p : Fin 1) → (c : Dev nD) → Dat τ (Elt F) (HIx 1) ℕ UU ℕ (pin (pcfgs (F := F)) adm p) c
  | 0 => dat W b

/-- The region: entered and left with its arrays, the core owing nothing and every recorded wait at level `b` or below. -/
def region : RegionSeg (pcfgs (F := F)) adm (pdats W b) none (defs₀ (F := F)) Variants.none (K (F := F)).L (K (F := F)).lev 0 where
  win := winFacts1.to₀
  block_pos := block_pos1
  stage_whole := stage_whole1
  K := PEmpty
  osem k := k.elim
  ho := OwnSemFacts.none _
  hbody c := (body_obligation W b c).loose
  hwaits c := (show (levAts (K (F := F)).L (K (F := F)).lev : sProp 𝕄) ⊢ BI.emp from by iintro -; iempintro).trans
    (cellsWaits_of_owed_zero (pin pcfgs adm) (pdats W b) none 0 c fun _ => rfl)
  pre c := iprop((dat W b c).arrays ((dat W b c).arrAt · 0) ∗ ∃ R, ⌜(K (F := F)).WBelow c.tc R b⌝ ∗ owes c.tc 0 R)
  post c := iprop((dat W b c).arrays ((dat W b c).arrAt · cfg1.N) ∗ ∃ R, ⌜(K (F := F)).WBelow c.tc R b⌝ ∗ owes c.tc 0 R)
  X _ := BI.emp
  Y _ := BI.emp
  Z _ := BI.emp
  hentry c := by
    rw [ownSems0_none, prefHeld_of_none _ rfl]
    iintro ⟨⟨Ha, ⟨%R, %hR, HO⟩⟩, -, -⟩
    imodintro
    isplitl [Ha]; · iexact Ha
    isplitr; · iempintro
    isplitl [HO]
    · unfold Dat.owesAt owesWithin Dat.bound
      iexists R; isplitr
      · ipureintro; exact fun p hp => Or.inl (hR p hp)
      · iexact HO
    isplitr <;> iempintro
  hin c := by
    show _ ⊢ scopedRest spec1 c
    iintro ⟨-, -, Hr⟩
    iexact Hr
  hout c := by
    rw [ownSems0_none]
    show scopedRest spec1 c ⊢ _
    iintro Hr
    isplitr; · iempintro
    isplitr; · iempintro
    iexact Hr
  hexit c := by
    iintro ⟨Ha, HO, -, -⟩
    imodintro
    isplitl [Ha]; · iexact Ha
    unfold Dat.owesAt owesWithin Dat.bound
    icases HO with ⟨%R, %hR, HO⟩
    iexists R; isplitr
    · ipureintro
      intro p hp
      rcases hR hp with h | h
      · exact h
      · obtain ⟨w, s, rfl⟩ := h
        exact Nat.zero_le _
    · iexact HO

end Cert.Proof.Region
-- ==== Proof.Launch.lean ====
/-
  The launch: how the one SparseCore call deals the rows of the indices and the slices of the counts to the thirty-two
  tiles and takes them back, @main on the TensorCore — the transpose, the call, the pipelined region — and the run of
  the whole program over any float values: the arguments kept, the result named, every semaphore back at zero.
-/
module

public import proofs.«01_k».proof.Proof.Region

@[expose] public section

noncomputable section

namespace Cert.Proof.Launch

open Cert.KernelIdeal Cert.KernelIdeal.Gen
open Cert.Proof.Task Cert.Proof.Region

open Idealize.ShloMosaic
open Idealize.ShloMosaic.SparseCore.Cfg (HIx Pay tileRest ownBufs ownSems0 ownCells ownRefs mem_ownCells mem_ownRefs)
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- Device `d`'s TensorCore. -/
abbrev tcT (d : Dev nD) : Thread nD τ := SparseCore.T d

variable (m : (ℓ : Loc nD τ sig) → Buf (Elt F) ℓ) (ρ : Dev nD → PrngReg)

/-! ## What the call hands out and takes back -/

/-- Row `k` of the indices at its launch contents with slice `k` of the counts, before the task and after it. -/
abbrev taskIn (d : Dev nD) (k : ℕ) : sProp 𝕄 := iprop(iRowPts m d k ∗ oSlicePts (F := F) d k (m (oLoc d)))
abbrev taskOut (d : Dev nD) (k : ℕ) : sProp 𝕄 := iprop(iRowPts m d k ∗ oSlicePts (F := F) d k (histo (m (iLoc d))))

/-- Tile `i` of SparseCore `c` handles table `2 i + c`; each SparseCore is handed what its sixteen tiles need. -/
def P : (K (F := F)).Pay (nD := nD) (Val := Elt F) (Name := ℕ) (U := UU) where
  st := fun q d c => match q with | 0 => bigSep Finset.univ fun i : Fin 16 => taskIn m d (2 * i.val + c.val)
  dn := fun q d c => match q with | 0 => bigSep Finset.univ fun i : Fin 16 => taskOut m d (2 * i.val + c.val)
  go := fun q d c i => match q with | 0 => taskIn m d (2 * i.val + c.val)
  td := fun q d c i => match q with | 0 => taskOut m d (2 * i.val + c.val)
  x := fun _ _ => iprop(emp)

instance P_storable : (P (F := F) m).IsStorable where
  st q d c := match q with
    | 0 => (inferInstance : BI.Storable (upEmb : UEmb _ 𝕄) (bigSep Finset.univ fun i : Fin 16 => taskIn m d (2 * i.val + c.val)))
  dn q d c := match q with
    | 0 => (inferInstance : BI.Storable (upEmb : UEmb _ 𝕄) (bigSep Finset.univ fun i : Fin 16 => taskOut m d (2 * i.val + c.val)))
  go q d c i := match q with | 0 => (inferInstance : BI.Storable (upEmb : UEmb _ 𝕄) (taskIn m d (2 * i.val + c.val)))
  td q d c i := match q with | 0 => (inferInstance : BI.Storable (upEmb : UEmb _ 𝕄) (taskOut m d (2 * i.val + c.val)))

theorem nSub_zero : (K (F := F)).nSub 0 = 16 := rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's share is dealt to its tiles as it stands, and theirs back is its own. -/
theorem vecSplit : (K (F := F)).VecSplit' (P m) 0 := by
  intro d c
  show iprop(bigSep Finset.univ fun i : Fin 16 => taskIn m d (2 * i.val + c.val)) ⊢ |={Set.univ}=> iprop(
      (bigSep Finset.univ fun i : Fin ((K (F := F)).nSub 0) => taskIn m d (2 * (Fin.cast nSub_zero i).val + c.val))
      ∗ ((bigSep Finset.univ fun i : Fin ((K (F := F)).nSub 0) => taskOut m d (2 * (Fin.cast nSub_zero i).val + c.val))
          -∗ (bigSep Finset.univ fun i : Fin 16 => taskOut m d (2 * i.val + c.val))))
  rw [bigSep_tasks (F := F) (fun i => taskIn m d (2 * i.val + c.val)), bigSep_tasks (F := F) (fun i => taskOut m d (2 * i.val + c.val))]
  iintro H; imodintro
  isplitl [H]; · iexact H
  iintro H; iexact H

/-- An array split by a key below 32 over the tiles: tile `i` of SparseCore `c` has the places of key `2 i + c`. -/
theorem pts_tiles (ℓ : Loc nD τ sig) (key : ℓ.2.ty.Idx → ℕ) (hk : ∀ j, key j < 32) (f : Buf (Elt F) ℓ) :
    (ℓ ↦{fullShare} f : sProp 𝕄)
      = bigSep Finset.univ fun c : Fin 2 => bigSep Finset.univ fun i : Fin 16 => ℓ ↦[Finset.univ.filter fun j => key j = 2 * i.val + c.val]{fullShare} f := by
  have hin : ∀ c : Fin 2, ((bigSep Finset.univ fun i : Fin 16 => ℓ ↦[Finset.univ.filter fun j => key j = 2 * i.val + c.val]{fullShare} f) : sProp 𝕄)
      = ℓ ↦[(Finset.univ : Finset (Fin 16)).biUnion fun i => Finset.univ.filter fun j => key j = 2 * i.val + c.val]{fullShare} f := fun c =>
    (pointsTo_biUnion Finset.univ (ℓ := ℓ) (fun i : Fin 16 => Finset.univ.filter fun j => key j = 2 * i.val + c.val)
      (fun i _ i' _ h => Finset.disjoint_left.mpr fun j hj hj' => by
        have h1 := (Finset.mem_filter.mp hj).2
        have h2 := (Finset.mem_filter.mp hj').2
        exact h (Fin.ext (by omega)))).symm
  rw [bigSep_congr fun c _ => hin c, ← pointsTo_biUnion Finset.univ (ℓ := ℓ)
    (fun c : Fin 2 => (Finset.univ : Finset (Fin 16)).biUnion fun i => Finset.univ.filter fun j => key j = 2 * i.val + c.val)
    (fun c _ c' _ h => Finset.disjoint_left.mpr fun j hj hj' => by
      obtain ⟨i, -, h1⟩ := Finset.mem_biUnion.mp hj
      obtain ⟨i', -, h2⟩ := Finset.mem_biUnion.mp hj'
      have h1 := (Finset.mem_filter.mp h1).2
      have h2 := (Finset.mem_filter.mp h2).2
      exact h (Fin.ext (by omega)))]
  congr 1
  refine (Finset.eq_univ_of_forall fun j => ?_).symm
  have hj := hk j
  refine Finset.mem_biUnion.mpr ⟨⟨key j % 2, Nat.mod_lt _ (by decide)⟩, Finset.mem_univ _,
    Finset.mem_biUnion.mpr ⟨⟨key j / 2, by omega⟩, Finset.mem_univ _, Finset.mem_filter.mpr ⟨Finset.mem_univ _, ?_⟩⟩⟩
  show key j = 2 * (key j / 2) + key j % 2
  omega

/-- The indices and the counts, whole, are what the two SparseCores are handed, at any contents of the counts. -/
theorem whole_tiles (d : Dev nD) (f : S2662400.Idx → BitVec 32) :
    (bigSep Finset.univ fun c : Fin 2 => bigSep Finset.univ fun i : Fin 16 =>
        iprop(iRowPts m d (2 * i.val + c.val) ∗ oSlicePts (F := F) d (2 * i.val + c.val) f))
      = (iprop((iLoc d ↦{fullShare} m (iLoc d)) ∗ (oLoc d ↦{fullShare} f)) : sProp 𝕄) := by
  simp only [bigSep_sep']
  rw [pts_tiles (iLoc d) (fun j : S26x16384.Idx => (j 0).val) (fun j => lt_trans (show (j 0).val < 26 from (j 0).isLt) (by decide)) (m (iLoc d)),
    pts_tiles (oLoc d) (fun j : S2662400.Idx => (j 0).val / 102400)
      (fun j => by have h : (j 0).val < 2662400 := (j 0).isLt; show (j 0).val / 102400 < 32; omega) f]
  rfl

theorem st0_eq (d : Dev nD) : (bigSep Finset.univ fun c : Fin ((K (F := F)).nCore 0) => (P m).st 0 d c)
    = iprop((iLoc d ↦{fullShare} m (iLoc d)) ∗ (oLoc d ↦{fullShare} m (oLoc d))) := whole_tiles m d (m (oLoc d))
theorem dn0_eq (d : Dev nD) : (bigSep Finset.univ fun c : Fin ((K (F := F)).nCore 0) => (P m).dn 0 d c)
    = iprop((iLoc d ↦{fullShare} m (iLoc d)) ∗ (oLoc d ↦{fullShare} histo (m (iLoc d)))) := whole_tiles m d (histo (m (iLoc d)))

/-! ## The tiles' tasks as the launch wants them -/

section Tasks

variable [FloatOps F]

/-- Every tile's task: its slice of the counts at the histogram of its row, or nothing done where there is no table. -/
theorem tile_task (d : Dev nD) (L : grid0.Coords) (hF : (K (F := F)).Facts) (hpre : PreOK m)
    (O : CellTallies nD τ sig (HIx 1)) (W : Waits sig (HIx 1)) (hO : ∀ g, O g none = 0) :
    iprop(levAts (K (F := F)).L (K (F := F)).lev ∗ emp ∗ taskIn m d (tab L) ∗ scopedBufs (thr d L) ∗ scopedSems0 (thr d L) ∗ owes (thr d L) O W)
      ⊢ wp frame (wpE (defs₀ (F := F)) 𝒱₀ (thr d L) none) Set.univ
          (cc0__sc_hist_body L (Memref.whole main_arg1_scv) (Memref.isWhole_whole _) (Memref.whole main_v1_scv) (Memref.isWhole_whole _)
            (Memref.whole cc0_scratch0) (Memref.isWhole_whole _) (Memref.whole cc0_scratch1) (Memref.isWhole_whole _) cc0_scratch2 cc0_scoped0)
          fun _ => iprop(taskOut m d (tab L) ∗ scopedBufs (thr d L) ∗ scopedSems0 (thr d L)
            ∗ ∃ W', ⌜∀ p ∈ W', p ∈ W ∨ p.2 = none⌝ ∗ owes (thr d L) O W') := by
  by_cases h1 : k0_cond1 L = 1#1
  · exact tile_body m d L hF hpre h1 _ O W hO
  · have he : ∀ j ∈ sliceSet (tab L), (m (oLoc d) : S2662400.Idx → BitVec 32) j = histo (m (iLoc d)) j := fun j hj => by
      have h2 := (Finset.mem_filter.mp hj).2
      have h3 : (j 0).val < 2662400 := (j 0).isLt
      exact absurd ((cond1_iff L).mpr (by omega)) h1
    have hs : (taskIn m d (tab L) : sProp 𝕄) = taskOut m d (tab L) := by
      unfold taskIn taskOut oSlicePts
      rw [pointsTo_congr he]
    rw [hs]
    exact tile_idle d L h1 (taskOut m d (tab L)) O W

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_hist_body (coordsV c s)
          (Memref.whole main_arg1_scv) (Memref.isWhole_whole _) (Memref.whole main_v1_scv) (Memref.isWhole_whole _)
          (Memref.whole cc0_scratch0) (Memref.isWhole_whole _) (Memref.whole cc0_scratch1) (Memref.isWhole_whole _) cc0_scratch2 cc0_scoped0) ⟨⟩ c s := rfl

omit [FloatOps F] in
/-- The waits a task may have recorded, weakened to what the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 1024 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_task m d (coordsV ⟨_, hc.1⟩ ⟨_, hc.2⟩) hF hpre O W hO).trans (wp_mono frame _ _ fun _ => obl_post)

end Tasks

/-! ## The launch element: the handshakes' rounds and the pipeline's -/

/-- The pipeline's rounds among the ghost state. -/
def EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP embR; infer_instance

section Main

variable [FloatOps F]

/-- The pipeline's staging cells are pairwise distinct. -/
theorem phinj : Function.Injective (Pipeline.cellOf (nD := nD) (τ := τ) (Pipeline.pin (pcfgs (F := F)) adm)) := cellOf_inj

/-- The pipeline's part of the launch element, and the whole of it. -/
def u₀P : UP := initOf (Pipeline.cells (Pipeline.pin (pcfgs (F := F)) adm) phinj) (Pipeline.launchToks (Pipeline.pin (pcfgs (F := F)) adm) phinj)

def u₀ : UU := (initOf (K (F := F)).hsCells (K (F := F)).hsToks,
  (u₀P (F := F), 1))

omit [FloatOps F] in
theorem bigSep_emp' {I : Type} (s : Finset I) : (bigSep s fun _ => iprop(emp)) = (iprop(emp) : sProp 𝕄) := bigSep_emp_const s

omit [FloatOps F] in
/-- The three parts of the launch element; the counters' is nothing. -/
theorem ownU_split (a : UH) (b : UP) : (ownU (a, (b, 1)) : sProp 𝕄) ⊢ iprop(BI.own (EH (F := F) a) ∗ BI.own (EP (F := F) b)) := by
  iintro H
  ihave H := (ownU_pair a ((b, 1) : UP × Counters)) $$ H
  icases H with ⟨Ha, Hb⟩
  ihave Hb := (own_pair_emb embR b (1 : Counters)) $$ Hb
  icases Hb with ⟨Hb, -⟩
  isplitl [Ha]; · iexact Ha
  iexact Hb

/-- What the pipeline's region takes of the ghost state on device `d`. -/
abbrev G (d : Dev nD) : sProp 𝕄 :=
  iprop(Pipeline.cellsGhost (Pipeline.pin (pcfgs (F := F)) adm) EP 0 d ∗ Pipeline.toksInit (Pipeline.pin (pcfgs (F := F)) adm) EP 0 d)

/-- The pipeline's part of the launch element deals every device its region's ghost state. -/
theorem deal_region : (BI.own (EP (F := F) (u₀P (F := F))) : sProp 𝕄) ⊢ iprop(|==> (bigSep Finset.univ fun d : Dev nD => G d)) := by
  refine (Pipeline.fund_ghost (Pipeline.pin (pcfgs (F := F)) adm) EP phinj).trans (BI.bupd_mono ?_)
  unfold G
  rw [bigSep_sep']
  exact BI.sep_mono
    (bigSep_mono fun d _ => bigSep_elim (Φ := fun p : Fin 1 => Pipeline.cellsGhost (Pipeline.pin (pcfgs (F := F)) adm) EP p d) (Finset.mem_univ (0 : Fin 1)))
    (bigSep_mono fun d _ => bigSep_elim (Φ := fun p : Fin 1 => Pipeline.toksInit (Pipeline.pin (pcfgs (F := F)) adm) EP p d) (Finset.mem_univ (0 : Fin 1)))

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_split _ _) $$ Hu
  icases H with ⟨HH, HP⟩
  imod (deal_region (F := F)) $$ HP with Hg
  imodintro
  isplitl [HH]; · iexact HH
  isplitl [Hg]; · iexact Hg
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)

/-- @main's transpose of the tables. -/
abbrev opT : HloOp τ sig (Elt F) :=
  StableHlo.unary main_arg2 main_v0 ((transpose S26x16x100000 [0, 2, 1] · transposes_S26x100000x16_S26x16x100000_0_2_1) : (⟨S26x100000x16, .f32⟩ : BufTy).Contents (Elt F) → (⟨S26x16x100000, .f32⟩ : BufTy).Contents (Elt F))

/-- The TensorCore's arrays. -/
abbrev SA : Finset (DevRef τ sig) := {a0', a1', a2', v0', v1', v2'}

omit [FloatOps F] in
theorem held_SA (d : Dev nD) (W : Valuation τ sig (Elt F)) :
    (held (tcT d) SA W : sProp 𝕄) = iprop(((tcT d).loc main_arg0 ↦{fullShare} W a0') ∗ ((tcT d).loc main_arg1 ↦{fullShare} W a1')
      ∗ ((tcT d).loc main_arg2 ↦{fullShare} W a2') ∗ ((tcT d).loc main_v0 ↦{fullShare} W v0') ∗ ((tcT d).loc main_v1 ↦{fullShare} W v1')
      ∗ ((tcT d).loc main_v2 ↦{fullShare} W v2')) := by
  unfold held SA
  rw [SparseCore.bigSep_insert' (by decide), SparseCore.bigSep_insert' (by decide), SparseCore.bigSep_insert' (by decide),
    SparseCore.bigSep_insert' (by decide), SparseCore.bigSep_insert' (by decide), bigSep_singleton]

omit [FloatOps F] in
/-- The pipeline's three arrays. -/
theorem held_arrs (d : Dev nD) (W : Valuation τ sig (Elt F)) :
    (held (tcT d) (Pipeline.arrRefs spec1) W : sProp 𝕄) = iprop(((tcT d).loc main_v1 ↦{fullShare} W v1') ∗ ((tcT d).loc main_v0 ↦{fullShare} W v0')
      ∗ ((tcT d).loc main_v2 ↦{fullShare} W v2')) := by
  unfold held
  rw [show (Pipeline.arrRefs spec1 : Finset (DevRef τ sig)) = {v1', v0', v2'} by decide, SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop(((tcT d).loc main_arg0 ↦{fullShare} W main_arg0) ∗ ((tcT d).loc main_arg1 ↦{fullShare} W main_arg1)
      ∗ ((tcT d).loc main_arg2 ↦{fullShare} W main_arg2) ∗ ((tcT d).loc main_v0 ↦{fullShare} W main_v0) ∗ ((tcT d).loc main_v1 ↦{fullShare} W main_v1)
      ∗ ((tcT d).loc main_v2 ↦{fullShare} W main_v2)) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- The arrays at launch; after the transpose; as the region finds them. -/
def V0 (d : Dev nD) : Valuation τ sig (Elt F) := fun b => m (d, b)
def V1 (d : Dev nD) : Valuation τ sig (Elt F) := (opT (F := F)).result (V0 m d)
def V2 (d : Dev nD) : Valuation τ sig (Elt F) := Function.update (V1 m d) v1' (histo (m (iLoc d)))

omit [FloatOps F] in
theorem unscoped_held (d : Dev nD) : (unscopedBufs d (fun b => m ((tcT d).loc b)) : sProp 𝕄) = held (tcT d) SA (V0 m d) := by
  rw [unscopedBufs_eq, held_SA]; rfl

theorem V1_of_ne (d : Dev nD) {b : DevRef τ sig} (h : b ≠ v0') : V1 m d b = m (d, b) :=
  (opT (F := F)).result_of_not_mem (V0 m d) (b := b) (show b ∉ ({v0'} : Finset (DevRef τ sig)) from fun e => h (Finset.mem_singleton.mp e))
theorem V2_of_ne (d : Dev nD) {b : DevRef τ sig} (h : b ≠ v1') : V2 m d b = V1 m d b := Function.update_of_ne h _ _
theorem V2_v1 (d : Dev nD) : V2 m d v1' = histo (m (iLoc d)) := Function.update_self _ _ _

section Run

variable [∀ e, Nonempty (Elt F e)]

/-- The result: what the region leaves in `main_v2`. -/
def final (d : Dev nD) : Buf (Elt F) ((tcT d).loc main_v2) := (dat (V2 m) 8 d).arrAt 2 cfg1.N

/-- The arrays after the region. -/
def V3 (d : Dev nD) : Valuation τ sig (Elt F) := Function.update (V2 m d) v2' (final m d)

theorem region_pre (d : Dev nD) :
    ((dat (V2 m) 8 d).arrays ((dat (V2 m) 8 d).arrAt · 0) : sProp 𝕄) = held (tcT d) (Pipeline.arrRefs spec1) (V2 m d) :=
  Pipeline.arrays_held (pcfgs (F := F)) adm (pdats (V2 m) 8) 0 launch1.toP d (fun w => by fin_cases w <;> rfl) ((dat (V2 m) 8 d).arrAt · 0) (V2 m d)
    (fun w => dat_A (V2 m) 8 d w)

theorem region_post (d : Dev nD) :
    ((dat (V2 m) 8 d).arrays ((dat (V2 m) 8 d).arrAt · cfg1.N) : sProp 𝕄) = held (tcT d) (Pipeline.arrRefs spec1) (V3 m d) :=
  Pipeline.arrays_held (pcfgs (F := F)) adm (pdats (V2 m) 8) 0 launch1.toP d (fun w => by fin_cases w <;> rfl) ((dat (V2 m) 8 d).arrAt · cfg1.N) (V3 m d)
    (fun w => by
      match w with
      | 0 => exact ((dat (V2 m) 8 d).arrAt_in 0 rfl cfg1.N).trans ((dat_A (V2 m) 8 d 0).trans (Function.update_of_ne (show v1' ≠ v2' by decide) _ _).symm)
      | 1 => exact ((dat (V2 m) 8 d).arrAt_in 1 rfl cfg1.N).trans ((dat_A (V2 m) 8 d 1).trans (Function.update_of_ne (show v0' ≠ v2' by decide) _ _).symm)
      | 2 => exact (Function.update_self v2' (final m d) (V2 m d)).symm)

theorem hT : (opT (F := F)).bufs ⊆ SA := show ({a2', v0'} : Finset (DevRef τ sig)) ⊆ SA by decide

/-- What @main leaves the claim: the arguments at their launch contents, the result. -/
abbrev FIN (d : Dev nD) : sProp 𝕄 :=
  iprop(((tcT d).loc main_arg0 ↦{fullShare} m ((tcT d).loc main_arg0)) ∗ ((tcT d).loc main_arg1 ↦{fullShare} m ((tcT d).loc main_arg1))
    ∗ ((tcT d).loc main_arg2 ↦{fullShare} m ((tcT d).loc main_arg2)) ∗ ((tcT d).loc main_v2 ↦{fullShare} final m d))

omit [FloatOps F] [∀ e, Nonempty (Elt F e)] in
/-- A custom call of the program's own signature, lifted to the SparseCores' signature. -/
theorem lift_call {Λ : Labels} (C : SparseCore.Cfg τ sig Λ 1) (D : Defs nD τ sig (Elt F) Λ) (𝒱 : Variants) (d : Dev nD) (bd : Option 𝒱.V) (ℓ : Λ.Label) (a : Λ.Args ℓ)
    (Φ : Λ.Result ℓ → sProp 𝕄) :
    wp frame (wpE D 𝒱 (tcT d) bd) Set.univ (.op (.customCall ℓ a) .ret) Φ
      ⊢ wp frame (wpE (C.defs D) 𝒱 (tcT d) bd) Set.univ (Prog.lift (.customCall (SparseCore.inner ℓ) a)) Φ :=
  C.wp_liftProg D 𝒱 (tcT d) Set.univ bd (.op (.customCall ℓ a) .ret) Φ

/-- The region's custom call as @main makes it: from the boundary, the region's arrays, nothing owed, and its ghost state. -/
theorem region_step (d : Dev nD) (R : Waits sig (HIx 1)) (hR : (K (F := F)).WBelow (tcT d) R 8) (Φ : PUnit → sProp 𝕄) :
    iprop(boundary (tcT d) ∗ held (tcT d) (Pipeline.arrRefs spec1) (V2 m d) ∗ owes (tcT d) 0 R ∗ levAts (K (F := F)).L (K (F := F)).lev ∗ G d
        ∗ ((boundary (tcT d) ∗ held (tcT d) (Pipeline.arrRefs spec1) (V3 m d) ∗ ∃ R', ⌜(K (F := F)).WBelow (tcT d) R' 8⌝ ∗ owes (tcT d) 0 R') -∗ Φ ⟨⟩))
      ⊢ wp frame (wpE ((K (F := F)).defs (D (F := F))) 𝒱 (tcT d) none) Set.univ
          (Prog.lift (.customCall (SparseCore.inner (Pipeline.entry 0)) ())) Φ := by
  refine BI.Entails.trans ?_ (lift_call (K (F := F)) (D (F := F)) 𝒱 d none (Pipeline.entry 0) () Φ)
  refine BI.Entails.trans ?_ (Pipeline.RegionSeg.wp (pcfgs (F := F)) adm (pdats (V2 m) 8) none phinj EP (defs₀ (F := F)) Variants.none
    (K (F := F)).L (K (F := F)).lev (region (V2 m) 8) d none (fun _ h => nomatch h) .ret Φ)
  show _ ⊢ iprop((iprop(boundary (tcT d) ∗ iprop((dat (V2 m) 8 d).arrays ((dat (V2 m) 8 d).arrAt · cfg1.N) ∗ ∃ R, ⌜(K (F := F)).WBelow (tcT d) R 8⌝ ∗ owes (tcT d) 0 R)) -∗ _)
    ∗ boundary (tcT d) ∗ iprop((dat (V2 m) 8 d).arrays ((dat (V2 m) 8 d).arrAt · 0) ∗ ∃ R, ⌜(K (F := F)).WBelow (tcT d) R 8⌝ ∗ owes (tcT d) 0 R) ∗ _)
  rw [region_pre, region_post]
  iintro ⟨Hb, Ha, HO, Hlv, HG, Hk⟩
  isplitl [Hk]
  · iintro H
    rw [wp_ret]; imodintro
    iapply Hk; iexact H
  isplitl [Hb]; · iexact Hb
  isplitl [Ha HO]
  · isplitl [Ha]; · iexact Ha
    iexists R; isplitr
    · ipureintro; exact hR
    · iexact HO
  isplitl [Hlv]; · iexact Hlv
  iexact HG

/-- @main on device `d`'s TensorCore: the transpose, the SparseCore call, the region; the arguments kept. -/
theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (tcT d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, HG⟩
  ihave #Hlv := (SparseCore.Cfg.ctx_levAts κ) $$ Hctx
  iapply (wp_hlo_within 𝒱 (tcT d) none Set.univ (op := opT) (S := SA) hT (V := V0 m d)) $$ [Hb Hheld]
  · isplitl [Hb] <;> iassumption
  iintro ⟨Hb, Hheld⟩
  ihave Hh := (Entails.of_eq (show (held (tcT d) SA ((opT (F := F)).result (V0 m d)) : sProp 𝕄) = _ from held_SA d (V1 m d))) $$ Hheld
  rw [V1_of_ne m d (show a0' ≠ v0' by decide), V1_of_ne m d (show a1' ≠ v0' by decide), V1_of_ne m d (show a2' ≠ v0' by decide),
    V1_of_ne m d (show v1' ≠ v0' by decide)]
  icases Hh with ⟨H0, H1, H2, Hv0, Hv1, Hv2⟩
  rw [wp_ret]; imodintro
  iapply ((K (F := F)).wp_run (D (F := F)) 𝒱 (EH := EH) (P := P m) κ d 0)
  isplitr; · iexact Hctx
  isplitl [Hst]; · iexact Hst
  isplitl [H1 Hv1]
  · rw [st0_eq]
    isplitl [H1]; · iexact H1
    iexact Hv1
  iintro ⟨Hst, Hdn⟩
  ihave Hdn' := (Entails.of_eq (dn0_eq m d)) $$ Hdn
  icases Hdn' with ⟨H1, Hv1⟩
  unfold SparseCore.Cfg.tcSt
  rw [(K (F := F)).Otc_end d (n := (0 : Fin 1).val + 1) le_rfl, (K (F := F)).Otc_end d (n := 1) le_rfl]
  icases Hst with ⟨⟨%R, %hR, HO⟩, Hst⟩
  iapply (region_step m d R hR)
  isplitl [Hb]; · iexact Hb
  isplitl [Hv0 Hv1 Hv2]
  · rw [held_arrs, V2_v1, V2_of_ne m d (show v0' ≠ v1' by decide), V2_of_ne m d (show v2' ≠ v1' by decide)]
    isplitl [Hv1]; · iexact Hv1
    isplitl [Hv0]; · iexact Hv0
    iexact Hv2
  isplitl [HO]; · iexact HO
  isplitr; · iexact Hlv
  isplitl [HG]; · iexact HG
  iintro ⟨Hb, Ha, HO⟩
  ihave Ha' := (Entails.of_eq (held_arrs (F := F) d (V3 m d))) $$ Ha
  icases Ha' with ⟨-, -, Hv2⟩
  rw [show V3 m d v2' = final m d from Function.update_self _ _ _]
  imodintro
  isplitl [HO Hst]
  · isplitl [HO]; · iexact HO
    iexact Hst
  isplitl [H0 H1 H2 Hv2]
  · isplitl [H0]; · iexact H0
    isplitl [H1]; · iexact H1
    isplitl [H2]; · iexact H2
    iexact Hv2
  isplitl [Hb] <;> iassumption

/-- What a final memory is read for on device `d`. -/
def fq (d : Dev nD) (s' : Phys nD τ sig (Elt F)) : Prop :=
  s'.mem.mem ((tcT d).loc main_v2) = final m d ∧ s'.mem.mem ((tcT d).loc main_arg0) = m ((tcT d).loc main_arg0)
    ∧ s'.mem.mem ((tcT d).loc main_arg1) = m ((tcT d).loc main_arg1) ∧ s'.mem.mem ((tcT d).loc main_arg2) = m ((tcT d).loc main_arg2)

omit [FloatOps F] [∀ e, Nonempty (Elt F e)] in
/-- A whole buffer held beside the state is what the memory has there. -/
theorem read_back (s' : Phys nD τ sig (Elt F)) (ℓ : Loc nD τ sig) (f : Buf (Elt F) ℓ) (Q : sProp 𝕄) :
    iprop((ℓ ↦{fullShare} f) ∗ Q ∗ SI s') ⊢ (iprop(⌜s'.mem.mem ℓ = f⌝ ∗ Q ∗ SI s') : sProp 𝕄) := by
  iintro ⟨Hx, HQ, HSI⟩
  ihave H := (persistent_entails_right (SI_pointsTo_agree (st := s') (ℓ := ℓ) (I := Finset.univ) (q := fullShare) (f := f))) $$ [HSI Hx]
  · isplitl [HSI] <;> iassumption
  icases H with ⟨%h, HSI, -⟩
  isplitr
  · ipureintro; exact funext fun i => h i (Finset.mem_univ i)
  isplitl [HQ] <;> iassumption

theorem hfin (d : Dev nD) (s' : Phys nD τ sig (Elt F)) : iprop(FIN m d ∗ SI s') ⊢ (⌜fq m d s'⌝ : sProp 𝕄) := by
  iintro ⟨⟨H0, H1, H2, Hv2⟩, HSI⟩
  ihave H := (read_back s' _ _ (iprop(emp))) $$ [H0 HSI]
  · isplitl [H0]; · iexact H0
    isplitr; · iempintro
    iexact HSI
  icases H with ⟨%h0, -, HSI⟩
  ihave H := (read_back s' _ _ (iprop(emp))) $$ [H1 HSI]
  · isplitl [H1]; · iexact H1
    isplitr; · iempintro
    iexact HSI
  icases H with ⟨%h1, -, HSI⟩
  ihave H := (read_back s' _ _ (iprop(emp))) $$ [H2 HSI]
  · isplitl [H2]; · iexact H2
    isplitr; · iempintro
    iexact HSI
  icases H with ⟨%h2, -, HSI⟩
  ihave H := (read_back s' _ _ (iprop(emp))) $$ [Hv2 HSI]
  · isplitl [Hv2]; · iexact Hv2
    isplitr; · iempintro
    iexact HSI
  icases H with ⟨%h3, -, -⟩
  ipureintro; exact ⟨h3, h0, h1, h2⟩

/-! ## The program's run -/

def QC : PUnit × MemSt nD τ sig (Elt F) → Prop := fun r =>
  (∀ c : Dev nD, r.2.mem ((tcT c).loc main_v2) = final m c ∧ r.2.mem ((tcT c).loc main_arg0) = m ((tcT c).loc main_arg0)
    ∧ r.2.mem ((tcT c).loc main_arg1) = m ((tcT c).loc main_arg1) ∧ r.2.mem ((tcT c).loc main_arg2) = m ((tcT c).loc main_arg2))
  ∧ r.2.sem = fun _ => 0

/-- The whole program, from any launch memory whose indices are in range: the result at `final`, the arguments kept,
    every semaphore at zero. -/
theorem run_main (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Run

end Main

end Cert.Proof.Launch
-- ==== Proof.Frames.lean ====
/-
  What the frames need beside the runs: the two preconditions read at one index, and the frames — the kernel's and its
  idealization's from the one run over any float values, the reference's from its straight-line run.
-/
module

public import proofs.«01_k».proof.Defs
public import proofs.«01_k».proof.Proof.Launch
public import proofs.«01_k».proof.Proof.Gen.Kernel
public import proofs.«01_k».proof.Proof.Gen.ReferenceIdeal.Run
public import proofs.«01_k».proof.Proof.Gen.Pre_in_range
public import proofs.«01_k».proof.Proof.Gen.Pre_in_bag
public import Idealize.ShloMosaic.Lib.ReduceAll
public import Idealize.ShloMosaic.Adequacy
public import Idealize.ShloMosaic.Init

@[expose] public section

noncomputable section

namespace Cert.Proof.Frames

open Idealize.ShloMosaic Idealize.SL.Sem

theorem andi_ofBool (a b : Bool) : IntOp.andi (BitVec.ofBool a) (BitVec.ofBool b) = BitVec.ofBool (a && b) := by
  cases a <;> cases b <;> decide

theorem ofBool_eq_one (a : Bool) : BitVec.ofBool a = 1#1 ↔ a = true := by cases a <;> decide

/-- The precondition says that every index is a vocabulary entry's. -/
theorem index_lt {F : FTy → Type} [FloatOps F] [Cert.Pre_in_range.Facts] {a0 : IVec Cert.Pre_in_range.S26x1 32} {a1 : IVec Cert.Pre_in_range.S26x16384 32}
    {a2 : FVec F Cert.Pre_in_range.S26x100000x16 .f32} (h : Cert.Pre_in_range.fn a0 a1 a2 = fun _ => 1#1) (j : Cert.Pre_in_range.S26x16384.Idx) :
    (a1 j).toNat < 100000 := by
  dsimp only [Cert.Pre_in_range.fn] at h
  have e := Host.reduce_andi_all _ _ _ _ _ (congrFun h (Shape.Idx.first Cert.Pre_in_range.Facts.h_S_)) j
  simp only [andi, cmpi, broadcastInDim, constantI, IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- A conjunction of two single bits is set when both are. -/
theorem andi_eq_one : ∀ {x y : BitVec 1}, IntOp.andi x y = 1#1 → x = 1#1 ∧ y = 1#1 := by decide

/-- The algebraic claim's precondition says that every index is a vocabulary entry's, … -/
theorem bag_index_lt {F : FTy → Type} [FloatOps F] [Cert.Pre_in_bag.Facts] {a0 : IVec Cert.Pre_in_bag.S26x1 32} {a1 : IVec Cert.Pre_in_bag.S26x16384 32}
    {a2 : FVec F Cert.Pre_in_bag.S26x100000x16 .f32} (h : Cert.Pre_in_bag.fn a0 a1 a2 = fun _ => 1#1) (j : Cert.Pre_in_bag.S26x16384.Idx) :
    (a1 j).toNat < 100000 := by
  dsimp only [Cert.Pre_in_bag.fn] at h
  have e := Host.reduce_andi_all _ _ _ _ _ (andi_eq_one (congrFun h (Shape.Idx.first Cert.Pre_in_bag.Facts.h_S_))).1 j
  simp only [andi, cmpi, broadcastInDim, constantI, IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- … and that every offset is at or before the first place. -/
theorem bag_offset_le {F : FTy → Type} [FloatOps F] [Cert.Pre_in_bag.Facts] {a0 : IVec Cert.Pre_in_bag.S26x1 32} {a1 : IVec Cert.Pre_in_bag.S26x16384 32}
    {a2 : FVec F Cert.Pre_in_bag.S26x100000x16 .f32} (h : Cert.Pre_in_bag.fn a0 a1 a2 = fun _ => 1#1) (j : Cert.Pre_in_bag.S26x1.Idx) :
    (a0 j).toInt ≤ 0 := by
  dsimp only [Cert.Pre_in_bag.fn] at h
  have e := Host.reduce_andi_all _ _ _ _ _ (andi_eq_one (congrFun h (Shape.Idx.first Cert.Pre_in_bag.Facts.h_S_))).2 j
  simp only [cmpi, broadcastInDim, constantI, IntOp.cmpi, ofBool_eq_one, BitVec.sle_eq_decide, decide_eq_true_eq] at e
  exact e

/-- The kernel and its idealization are one text: the two body tables have the same bodies, and so the two programs the same table. -/
theorem defs₀_eq {F : FTy → Type} [FloatOps F] : Cert.Kernel.defs₀ (F := F) = Cert.KernelIdeal.defs₀ := by
  funext pr l a
  match pr, l, a with
  | .tc, 0, a => rfl
  | .tc, 1, a => rfl
  | .scScalar _, 0, a => rfl
  | .scScalar _, 1, a => rfl
  | .scVector _ _, 0, a => rfl
  | .scVector _ _, 1, a => rfl

theorem defs_eq {F : FTy → Type} [FloatOps F] : Cert.Kernel.defs (F := F) = Cert.KernelIdeal.defs := by
  unfold Cert.Kernel.defs
  rw [defs₀_eq]
  rfl

/-- `Cert.quiescent_Kernel`: the run of `Launch.run_main` at the machine's float values. -/
theorem frame_kernel : Cert.quiescent_Kernel := by
  intro m ρ hpre
  rw [defs_eq]
  exact (θ_run Cert.KernelIdeal.defs _ _).mono (fun _ h => ⟨fun c => (h.1 c).2, h.2⟩) (Launch.run_main (F := Bits) m ρ fun d j => index_lt (hpre d) j)

/-- `Cert.quiescent_KernelIdeal`: the same run at the extended reals. -/
theorem frame_kernelIdeal : Cert.quiescent_KernelIdeal := fun m ρ hpre =>
  (θ_run Cert.KernelIdeal.defs _ _).mono (fun _ h => ⟨fun c => (h.1 c).2, h.2⟩) (Launch.run_main (F := Ideal) m ρ fun d j => index_lt (hpre d) j)

/-- `Cert.quiescent_KernelIdeal_pre_in_bag`: the same run again, from the algebraic claim's launches. -/
theorem frame_kernelIdeal_in_bag : Cert.quiescent_KernelIdeal_pre_in_bag := fun m ρ hpre =>
  (θ_run Cert.KernelIdeal.defs _ _).mono (fun _ h => ⟨fun c => (h.1 c).2, h.2⟩) (Launch.run_main (F := Ideal) m ρ fun d j => bag_index_lt (hpre d) j)

/-- `Cert.quiescent_ReferenceIdeal`: the reference's run read at its arguments; it declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- `Cert.quiescent_ReferenceIdeal_pre_in_bag`: the reference's frame asks nothing. -/
theorem frame_referenceIdeal_in_bag : Cert.quiescent_ReferenceIdeal_pre_in_bag := fun m ρ _ => frame_referenceIdeal m ρ True.intro

end Cert.Proof.Frames

end
-- ==== Proof.Sums.lean ====
/-
  The TensorCore block at the ideal values: the eight stretches of products the body sums and adds are one sum over the
  rows of the table, each row's entry times the row's count.
-/
module

public import proofs.«01_k».proof.Proof.Launch
public import Idealize.ShloMosaic.Lib.Pipeline.ValueKit
public import Idealize.ShloMosaic.Lib.Pipeline.Value
public import Idealize.ShloMosaic.Lib.Pointwise
public import Idealize.ShloMosaic.Lib.ValueIdxCore

@[expose] public section

noncomputable section

namespace Cert.Proof.Sums

open Cert.KernelIdeal Cert.KernelIdeal.Gen
open Cert.Proof.Hist Cert.Proof.Task Cert.Proof.Region Cert.Proof.Launch

open Idealize.ShloMosaic
open Idealize.ShloMosaic.Pipeline

/-! ## One stretch -/

/-- The sum over one stretch, of any width and offset: the entries of the table's rows in the stretch times the counts,
    which are read as signed integers. -/
theorem stretch (n off : ℕ) (X : FVec Ideal ⟨2, ![16, 100000]⟩ .f32) (G : IVec ⟨1, ![n]⟩ 32)
    (hn : n ≠ 1) (hS : (⟨2, ![16, 100000]⟩ : Shape).Slices ![0, off] ⟨2, ![16, n]⟩) (h1 : (⟨1, ![n]⟩ : Shape).ShapeCasts ⟨1, ![n]⟩)
    (h2 : (⟨1, ![n]⟩ : Shape).ShapeCasts ⟨2, ![1, n]⟩) (h3 : (⟨2, ![1, n]⟩ : Shape).Broadcasts ⟨2, ![16, n]⟩)
    (h4 : (⟨2, ![16, n]⟩ : Shape).Reduces [1] ⟨1, ![16]⟩) (acc : BitVec 32) (hφ) (hacc) (j : (⟨1, ![16]⟩ : Shape).Idx) :
    multiReduction .add [1] ⟨1, ![16]⟩ (mulf (extractStridedSlice ⟨2, ![16, n]⟩ ![0, off] X hS)
        (broadcastTo ⟨2, ![16, n]⟩ (shapeCast ⟨2, ![1, n]⟩ (sitofp .f32 (shapeCast ⟨1, ![n]⟩ G h1)) h2) h3)) acc h4 hφ hacc j
      = ∑ k : Fin n, X (ix2 ⟨(j 0).val, (j 0).isLt⟩ ⟨off + k.val, by have := hS.2 1; have h := k.isLt; simp at this; omega⟩)
          * (((G (ix1 k)).toInt : ℝ) : EReal) := by
  refine (Ideal.reduceAdd_r2_a1 h4 _ j).trans (Finset.sum_congr rfl fun k _ => ?_)
  show extractStridedSlice _ _ X hS _ * broadcastTo _ _ h3 _ = _
  congr 1
  · refine extractStridedSlice_apply _ _ _ _ _ fun a => ?_
    fin_cases a <;> simp [ix2]
  · rw [broadcastTo_apply _ h3 _ (ix2 0 k) (fun a => by fin_cases a <;> simp [ix2, hn]),
      shapeCast_apply _ h2 _ (ix1 k) (by rw [Shape.rowMajor_val_one, Shape.rowMajor_val_two]; show k.val = 0 * n + k.val; omega), shapeCast_self]
    rfl

/-! ## The eight stretches -/

/-- Row `v`'s product for column `c`, as a function of every natural number: nothing past the table's last row. -/
def term (g : S102400.Idx → BitVec 32) (x : S1x16x100000.Idx → EReal) (c : Fin 16) (v : ℕ) : EReal :=
  if h : v < 100000 then x (ix3 0 c ⟨v, h⟩) * (((g (ix1 ⟨v, by omega⟩)).toInt : ℝ) : EReal) else 0

/-- A stretch of the body's sums is that many products from its offset on. -/
theorem stretch_at (g : S102400.Idx → BitVec 32) (x : S1x16x100000.Idx → EReal) (c : Fin 16) (n off : ℕ) (hn : n ≠ 1) (hle : off + n ≤ 100000)
    (inb : ∀ a, (![off] : Fin 1 → ℕ) a + (⟨1, ![n]⟩ : Shape).size a ≤ S102400.size a)
    (hS : (⟨2, ![16, 100000]⟩ : Shape).Slices ![0, off] ⟨2, ![16, n]⟩) (h1 : (⟨1, ![n]⟩ : Shape).ShapeCasts ⟨1, ![n]⟩)
    (h2 : (⟨1, ![n]⟩ : Shape).ShapeCasts ⟨2, ![1, n]⟩) (h3 : (⟨2, ![1, n]⟩ : Shape).Broadcasts ⟨2, ![16, n]⟩)
    (h4 : (⟨2, ![16, n]⟩ : Shape).Reduces [1] ⟨1, ![16]⟩) (acc : BitVec 32) (hφ) (hacc) :
    multiReduction (F := Ideal) .add [1] ⟨1, ![16]⟩ (mulf (extractStridedSlice ⟨2, ![16, n]⟩ ![0, off] (k1_pay2 (View.ld (Val := Elt Ideal) (e' := .f32) x rT)) hS)
        (broadcastTo ⟨2, ![16, n]⟩ (shapeCast ⟨2, ![1, n]⟩ (sitofp .f32 (shapeCast ⟨1, ![n]⟩
          (View.ld (Val := Elt Ideal) (e' := .i32) g (Rect.unit (s := S102400) ![off] (⟨1, ![n]⟩ : Shape).size inb) : IVec ⟨1, ![n]⟩ 32) h1)) h2) h3)) acc h4 hφ hacc (ix1 c)
      = ∑ k ∈ Finset.range n, term g x c (off + k) := by
  rw [Finset.sum_range, stretch n off _ _ hn]
  refine Finset.sum_congr rfl fun k _ => ?_
  have hk : off + k.val < 100000 := by omega
  unfold term
  rw [dif_pos hk]
  congr 1
  · unfold k1_pay2
    refine (shapeCast_apply _ _ (ix2 c ⟨off + k.val, hk⟩) (ix3 0 c ⟨off + k.val, hk⟩) ?_).trans ?_
    · rw [Shape.rowMajor_val_two, Shape.rowMajor_val_three]; simp [ix2, ix3]
    refine congrArg x (funext fun a => Fin.ext ?_)
    fin_cases a <;> simp [ix3]
  · refine congrArg (fun w : BitVec 32 => ((w.toInt : ℝ) : EReal)) (congrArg g (funext fun a => Fin.ext ?_))
    fin_cases a; simp [ix1]

/-- Two consecutive sums are one. -/
theorem sum_step (f : ℕ → EReal) (a b c : ℕ) (h : a + b = c) :
    (∑ k ∈ Finset.range a, f k) + ∑ k ∈ Finset.range b, f (a + k) = ∑ k ∈ Finset.range c, f k := by
  subst h; exact (Finset.sum_range_add f a b).symm

/-- What the body leaves at column `y 2`: the whole table's products, summed. -/
theorem out_apply (g : S102400.Idx → BitVec 32) (x : S1x16x100000.Idx → EReal) (y : S1x1x16.Idx) :
    out (F := Ideal) g x y = ∑ v : Fin 100000, x (ix3 0 (y 2) v) * (((g (ix1 ⟨v.val, by omega⟩)).toInt : ℝ) : EReal) := by
  have hsum : (∑ v : Fin 100000, x (ix3 0 (y 2) v) * (((g (ix1 ⟨v.val, by omega⟩)).toInt : ℝ) : EReal))
      = ∑ v ∈ Finset.range 100000, term g x (y 2) v := by
    rw [Finset.sum_range]
    exact Finset.sum_congr rfl fun v _ => by unfold term; rw [dif_pos v.isLt]
  rw [hsum]
  have hsplit : (∑ v ∈ Finset.range 100000, term g x (y 2) v)
      = ((((((((Ideal.ofBits .f32 0#32 + ∑ k ∈ Finset.range 12800, term g x (y 2) (0 + k)) + ∑ k ∈ Finset.range 12800, term g x (y 2) (12800 + k))
        + ∑ k ∈ Finset.range 12800, term g x (y 2) (25600 + k)) + ∑ k ∈ Finset.range 12800, term g x (y 2) (38400 + k))
        + ∑ k ∈ Finset.range 12800, term g x (y 2) (51200 + k)) + ∑ k ∈ Finset.range 12800, term g x (y 2) (64000 + k))
        + ∑ k ∈ Finset.range 12800, term g x (y 2) (76800 + k)) + ∑ k ∈ Finset.range 10400, term g x (y 2) (89600 + k)) := by
    rw [Ideal.ofBits_zero_f32, zero_add]
    simp only [Nat.zero_add]
    rw [sum_step _ 12800 12800 25600 rfl, sum_step _ 25600 12800 38400 rfl, sum_step _ 38400 12800 51200 rfl, sum_step _ 51200 12800 64000 rfl,
      sum_step _ 64000 12800 76800 rfl, sum_step _ 76800 12800 89600 rfl, sum_step _ 89600 10400 100000 rfl]
  rw [hsplit]
  unfold out k1_pay1 k1_pay3 k1_pay4
  refine (shapeCast_apply (s := S16) _ shapeCasts_S16_S1x1x16 y (ix1 (y 2)) ?_).trans ?_
  · rw [Shape.rowMajor_val_one, Shape.rowMajor_val_three]; have h0 := (y 0).isLt; have h1 := (y 1).isLt; simp [ix1] at h0 h1 ⊢
  exact congrArg₂ (· + ·) (congrArg₂ (· + ·) (congrArg₂ (· + ·) (congrArg₂ (· + ·) (congrArg₂ (· + ·) (congrArg₂ (· + ·) (congrArg₂ (· + ·)
    (congrArg₂ (· + ·) rfl (stretch_at g x (y 2) 12800 0 (by decide) (by decide) _ _ _ _ _ _ _ _ _))
    (stretch_at g x (y 2) 12800 12800 (by decide) (by decide) _ _ _ _ _ _ _ _ _)) (stretch_at g x (y 2) 12800 25600 (by decide) (by decide) _ _ _ _ _ _ _ _ _))
    (stretch_at g x (y 2) 12800 38400 (by decide) (by decide) _ _ _ _ _ _ _ _ _)) (stretch_at g x (y 2) 12800 51200 (by decide) (by decide) _ _ _ _ _ _ _ _ _))
    (stretch_at g x (y 2) 12800 64000 (by decide) (by decide) _ _ _ _ _ _ _ _ _)) (stretch_at g x (y 2) 12800 76800 (by decide) (by decide) _ _ _ _ _ _ _ _ _))
    (stretch_at g x (y 2) 10400 89600 (by decide) (by decide) _ _ _ _ _ _ _ _ _)

end Cert.Proof.Sums
-- ==== Proof.Values.lean ====
/-
  The kernel's result at the ideal values, as mathematics: bag `k`'s column `c` is the sum, over the 16384 indices of
  table `k`, of column `c` of the row each index names. The kernel reaches it as the sum over the table's rows of the
  row times the number of indices that name it.
-/
module

public import proofs.«01_k».proof.Proof.Sums

@[expose] public section

noncomputable section

namespace Cert.Proof.Values

open Cert.KernelIdeal Cert.KernelIdeal.Gen
open Cert.Proof.Hist Cert.Proof.Task Cert.Proof.Region Cert.Proof.Launch Cert.Proof.Sums

open Idealize.ShloMosaic
open Idealize.ShloMosaic.Pipeline

/-! ## A sum by counting -/

/-- A number times an extended real is that many copies of it. -/
theorem mul_natCast (x : EReal) (n : ℕ) : x * (((n : ℤ) : ℝ) : EReal) = n • x := by
  rw [EReal.nsmul_eq_mul, mul_comm]; norm_num

/-- A word counting at most 16384 places, read signed, is the count. -/
theorem toInt_count (s : S16384.Idx → BitVec 32) (b : ℕ) : (BitVec.ofNat 32 (count s 16384 b)).toInt = (count s 16384 b : ℤ) := by
  have h := count_le s 16384 b
  have e : (BitVec.ofNat 32 (count s 16384 b)).toNat = count s 16384 b := by rw [BitVec.toNat_ofNat]; omega
  rw [BitVec.toInt_eq_toNat_of_lt (by omega), e]

/-- Summing a function over the rows, each as often as an index names it, is summing it over the indices. -/
theorem sum_count (s : S16384.Idx → BitVec 32) (hs : ∀ j, (s j).toNat < 100000) (f : Fin 100000 → EReal) :
    (∑ v : Fin 100000, f v * ((((BitVec.ofNat 32 (count s 16384 v.val)).toInt : ℤ) : ℝ) : EReal))
      = ∑ j : Fin 16384, f ⟨(s (ix1 j)).toNat, hs _⟩ := by
  have hj : (∑ j : Fin 16384, f ⟨(s (ix1 j)).toNat, hs _⟩) = ∑ i : S16384.Idx, f ⟨(s i).toNat, hs i⟩ :=
    Fintype.sum_equiv (laneEquiv ![16384]) _ _ fun j => by
      have e : (ix1 j : S16384.Idx) = laneEquiv ![16384] j := by funext a; obtain rfl := Fin.eq_zero a; rfl
      rw [e]
  rw [hj, ← Finset.sum_fiberwise Finset.univ fun i : S16384.Idx => (⟨(s i).toNat, hs i⟩ : Fin 100000)]
  refine Finset.sum_congr rfl fun v _ => ?_
  rw [toInt_count, mul_natCast]
  have hc : count s 16384 v.val = (Finset.univ.filter fun i : S16384.Idx => (⟨(s i).toNat, hs i⟩ : Fin 100000) = v).card := by
    unfold Hist.count
    refine congrArg Finset.card (Finset.filter_congr fun i _ => ?_)
    rw [Fin.ext_iff]
    exact ⟨fun h => h.2, fun h => ⟨(i 0).isLt, h⟩⟩
  rw [hc, ← Finset.sum_const]
  refine Finset.sum_congr rfl fun i hi => ?_
  rw [(Finset.mem_filter.mp hi).2]

/-! ## The result -/

variable (m : (ℓ : Loc nD τ sig) → Buf (Elt Ideal) ℓ)

/-- Each window's block index at a point: the table, and zeroes. -/
theorem index_0 : ∀ t : Fin cfg1.N, win1_0.index t = ![t.val] := (by decide +kernel : ∀ t : Fin grid1.N, _)
theorem index_1 : ∀ t : Fin cfg1.N, win1_1.index t = ![t.val, 0, 0] := (by decide +kernel : ∀ t : Fin grid1.N, _)
theorem index_2 : ∀ t : Fin cfg1.N, win1_2.index t = ![t.val, 0, 0] := (by decide +kernel : ∀ t : Fin grid1.N, _)

/-- The bag sums: at `(k, 0, c)`, the sum over the table's indices of column `c` of the row named. -/
def bags (a1 : S26x16384.Idx → BitVec 32) (h : ∀ j, (a1 j).toNat < 100000) (a2 : S26x100000x16.Idx → EReal) : S26x1x16.Idx → EReal :=
  fun i => ∑ j : Fin 16384, a2 (ix3 (i 0) ⟨(a1 (ix2 (i 0) j)).toNat, h _⟩ (i 2))

theorem bags_at (a1 : S26x16384.Idx → BitVec 32) (h : ∀ j, (a1 j).toNat < 100000) (a2 : S26x100000x16.Idx → EReal) (i : S26x1x16.Idx)
    {k : Fin 26} {c : Fin 16} (h0 : i 0 = k) (h2 : i 2 = c) :
    bags a1 h a2 i = ∑ j : Fin 16384, a2 (ix3 k ⟨(a1 (ix2 k j)).toNat, h _⟩ c) := by subst h0 h2; rfl

/-- The indices and the tables at launch. -/
abbrev A1 (d : Dev nD) : S26x16384.Idx → BitVec 32 := m ((tcT d).loc main_arg1)
abbrev A2 (d : Dev nD) : S26x100000x16.Idx → EReal := m ((tcT d).loc main_arg2)

/-- The transposed tables, as the region finds them. -/
theorem V2_v0 (d : Dev nD) : V2 m d v0' = transpose S26x16x100000 [0, 2, 1] (m (d, a2')) transposes_S26x100000x16_S26x16x100000_0_2_1 := by
  rw [V2_of_ne _ _ (by decide)]
  exact StableHlo.unary_result ..

/-- A point's number, as a table. -/
abbrev tab (t : Fin cfg1.N) : Fin 26 := ⟨t.val, t.isLt⟩

/-- The table block at point `t`: table `t`, its columns down the rows. -/
theorem blk_1 (d : Dev nD) (t : Fin cfg1.N) (c : Fin 16) (v : Fin 100000) :
    blk (V2 m) d 1 t (ix3 0 c v) = A2 m d (ix3 (tab t) v c) := by
  show V2 m d v0' ((win1_1.blk t).view.emb (ix3 0 c v)) = _
  rw [V2_v0]
  refine transpose_apply _ _ _ _ _ fun b => ?_
  fin_cases b
  · show t.val = ((win1_1.blk t).view.emb (ix3 0 c v) 0).val
    blk_simp [index_1]
    simp [ix3]
  · show c.val = ((win1_1.blk t).view.emb (ix3 0 c v) 1).val
    blk_simp [index_1]
  · show v.val = ((win1_1.blk t).view.emb (ix3 0 c v) 2).val
    blk_simp [index_1]

/-- The counts block at point `t`: the histogram of table `t`'s indices. -/
theorem blk_0 (d : Dev nD) (t : Fin cfg1.N) (v : Fin 102400) :
    blk (V2 m) d 0 t (ix1 v) = BitVec.ofNat 32 (count (rowOf (A1 m d) (tab t)) 16384 v.val) := by
  show V2 m d v1' ((win1_0.blk t).view.emb (ix1 v)) = _
  rw [V2_v1]
  have e : ((win1_0.blk t).view.emb (ix1 v) 0).val = t.val * 102400 + v.val := by
    blk_simp [index_0]
  unfold histo
  have hk : tableOf ((win1_0.blk t).view.emb (ix1 v)) = tab t := Fin.ext (by
    show ((win1_0.blk t).view.emb (ix1 v) 0).val / 102400 = t.val
    rw [e]; omega)
  have hm : (t.val * 102400 + v.val) % 102400 = v.val := by omega
  rw [hk, e, hm]

/-- What the body leaves at point `t`: table `t`'s bag. -/
theorem out_point (hpre : PreOK m) (d : Dev nD) (t : Fin cfg1.N) (y : S1x1x16.Idx) :
    out (F := Ideal) (blk (V2 m) d 0 t) (blk (V2 m) d 1 t) y
      = ∑ j : Fin 16384, A2 m d (ix3 (tab t) ⟨(A1 m d (ix2 (tab t) j)).toNat, hpre d _⟩ (y 2)) := by
  refine (out_apply _ _ _).trans (Eq.trans ?_
    (sum_count (rowOf (A1 m d) (tab t)) (fun _ => hpre d _) fun v => A2 m d (ix3 (tab t) v (y 2))))
  refine Finset.sum_congr rfl fun v _ => ?_
  exact congrArg₂ (fun (a : EReal) (w : BitVec 32) => a * ((w.toInt : ℝ) : EReal)) (blk_1 m d t (y 2) v) (blk_0 m d t ⟨v.val, by omega⟩)

/-- The program leaves the bag sums. -/
theorem final_eq (hpre : PreOK m) (d : Dev nD) : final m d = bags (A1 m d) (hpre d) (A2 m d) := by
  unfold final
  refine (dat (V2 m) 8 d).arrAt_eq_of_covers 2 _ (by decide +kernel) fun t hf y => ?_
  blk_simp
  rw [after_2]
  have e0 : (win1_2.blk t).view.emb y 0 = tab t := Fin.ext (by blk_simp [index_2])
  have e2 : (win1_2.blk t).view.emb y 2 = y 2 := Fin.ext (by blk_simp [index_2])
  exact (out_point m hpre d t y).trans (bags_at (A1 m d) (hpre d) (A2 m d) ((win1_2.blk t).view.emb y) e0 e2).symm

end Cert.Proof.Values
-- ==== Proof.Reference.lean ====
/-
  The reference's result at the ideal values: with every offset at or before the first place, every gathered row is
  added to its table's bag, so bag `k`'s column `c` is the sum of column `c` of the rows that table `k`'s indices name.
-/
module

public import proofs.«01_k».proof.Defs
public import proofs.«01_k».proof.Proof.Gen.ReferenceIdeal
public import Idealize.ShloMosaic.Lib.Pointwise
public import Idealize.ShloMosaic.Lib.ValueIdxCore
public import Idealize.ShloMosaic.Lib.IdealHost
public import Idealize.ShloMosaic.Lib.WordCmp

@[expose] public section

noncomputable section

namespace Cert.Proof.Reference

open Cert.ReferenceIdeal Cert.ReferenceIdeal.Gen
open Idealize.ShloMosaic Idealize.ShloMosaic.WordCmp

/-- The gather's dimension numbers. -/
abbrev gd := gather_S26x100000x16_S26x16384x2_S26x16384x16_2_01_n_n_01_2_1116

/-- The scatter's dimension numbers. -/
abbrev sd := scatter_S26x1x16_S26x16384x2_S26x16384x16_2_01_01_2

/-- The index pairs of the gather: the table, and the index, each wrapped once when negative. -/
def gIdx (a1 : IVec S26x16384 32) : IVec S26x16384x2 32 :=
  concatenate S26x16384x2 2 [⟨S26x16384x1, (broadcastInDim S26x16384x1 ![0, 1] bcast_S26x16384_S26x16384x1_0_1 (broadcastInDim S26x16384 ![0, 1] bcast_S26x1_S26x16384_0_1 (select (cmpi .slt (broadcastInDim S26x1 ![0] bcast_S26_S26x1_0 (iotaInDim S26 32 0)) (broadcastInDim S26x1 ![] bcast_S_S26x1 (constantI S_ 32 0#32))) (addi (broadcastInDim S26x1 ![0] bcast_S26_S26x1_0 (iotaInDim S26 32 0)) (broadcastInDim S26x1 ![] bcast_S_S26x1 (constantI S_ 32 26#32))) (broadcastInDim S26x1 ![0] bcast_S26_S26x1_0 (iotaInDim S26 32 0)))))⟩,
    ⟨S26x16384x1, (broadcastInDim S26x16384x1 ![0, 1] bcast_S26x16384_S26x16384x1_0_1 (select (cmpi .slt a1 (broadcastInDim S26x16384 ![] bcast_S_S26x16384 (constantI S_ 32 0#32))) (addi a1 (broadcastInDim S26x16384 ![] bcast_S_S26x16384 (constantI S_ 32 100000#32))) a1))⟩] concatenates_S26x16384x1_S26x16384x1_S26x16384x2_d2

/-- How many offsets are at or before each place. -/
def below (a0 : IVec S26x1 32) : IVec S26x16384x1 32 :=
  extui 32 (cmpi .sle (broadcastInDim S26x16384x1 ![0, 1, 2] bcast_S26x1x1_S26x16384x1_0_1_2 (broadcastInDim S26x1x1 ![0, 2] bcast_S26x1_S26x1x1_0_2 a0)) (broadcastInDim S26x16384x1 ![0, 1, 2] bcast_S1x16384x1_S26x16384x1_0_1_2 (broadcastInDim S1x16384x1 ![1] bcast_S16384_S1x16384x1_1 (iotaInDim S16384 32 0)))) natLt_1_32

/-- The index pairs of the scatter: the table, and the bag. -/
def sIdx (a0 : IVec S26x1 32) : IVec S26x16384x2 32 :=
  concatenate S26x16384x2 2 [⟨S26x16384x1, (broadcastInDim S26x16384x1 ![0, 1] bcast_S26x16384_S26x16384x1_0_1 (broadcastInDim S26x16384 ![0, 1] bcast_S26x1_S26x16384_0_1 (broadcastInDim S26x1 ![0] bcast_S26_S26x1_0 (iotaInDim S26 32 0))))⟩,
    ⟨S26x16384x1, (broadcastInDim S26x16384x1 ![0, 1] bcast_S26x16384_S26x16384x1_0_1 (subi (Host.reduce IntOp.addi (below a0) (constantI S_ 32 0#32) reducesTo_S26x16384x1_S26x16384_d2 h_S_) (broadcastInDim S26x16384 ![] bcast_S_S26x16384 (constantI S_ 32 1#32))))⟩] concatenates_S26x16384x1_S26x16384x1_S26x16384x2_d2

/-- A table's number is below the sign bit. -/
theorem table_toInt (k : Fin 26) : (BitVec.ofNat 32 k.val).toInt = k.val :=
  toInt_ofNat_of_lt (by have := k.isLt; omega)

/-- An index that is not negative is not wrapped. -/
theorem unwrapped (x y : BitVec 32) (h : x.toNat < 100000) :
    Scalar.select (IntOp.cmpi .slt x 0#32) y x = x := by
  rw [cmpi_slt_eq, toInt_eq_toNat_of_lt_half (by omega), decide_eq_false (by show ¬ (x.toNat : ℤ) < 0; omega)]
  rfl

/-- The first word of a gathered pair is the table. -/
theorem gIdx_0 (a1 : IVec S26x16384 32) (k : Fin 26) (p : Fin 16384) : gIdx a1 (ix3 k p 0) = BitVec.ofNat 32 k.val := by
  unfold gIdx
  pointwise
  exact unwrapped _ _ (by rw [BitVec.toNat_ofNat]; have := k.isLt; omega)

/-- The second word of a gathered pair is the index. -/
theorem gIdx_1 (a1 : IVec S26x16384 32) (k : Fin 26) (p : Fin 16384) (h : (a1 (ix2 k p)).toNat < 100000) :
    gIdx a1 (ix3 k p 1) = a1 (ix2 k p) := by
  unfold gIdx
  pointwise
  exact unwrapped _ _ h

/-- The first word of a scattered pair is the table. -/
theorem sIdx_0 (a0 : IVec S26x1 32) (k : Fin 26) (p : Fin 16384) : sIdx a0 (ix3 k p 0) = BitVec.ofNat 32 k.val := by
  unfold sIdx
  pointwise

/-- An offset at or before the first place is at or before every place. -/
theorem below_at (a0 : IVec S26x1 32) (k : Fin 26) (p : Fin 16384) (x : Fin 1) (h : (a0 (ix2 k 0)).toInt ≤ 0) :
    below a0 (ix3 k p x) = 1#32 := by
  obtain rfl : x = 0 := Subsingleton.elim _ _
  unfold below
  pointwise
  rw [cmpi_sle_eq, toInt_ofNat_of_lt (by have := p.isLt; omega), decide_eq_true (by omega)]
  rfl

/-- The second word of a scattered pair is the table's one bag. -/
theorem sIdx_1 (a0 : IVec S26x1 32) (k : Fin 26) (p : Fin 16384) (h : (a0 (ix2 k 0)).toInt ≤ 0) : sIdx a0 (ix3 k p 1) = 0#32 := by
  unfold sIdx
  pointwise
  simp only [below_at a0 k p _ h]
  rfl

/-- The pair a gathered element reads, word `q`. -/
theorem gd_siIdx (k : Fin 26) (p : Fin 16384) (c : Fin 16) (q : Fin 2) : gd.siIdx (ix3 k p c) q = ix3 k p q := by
  funext b
  apply Fin.ext
  match b with
  | ⟨0, _⟩ => rfl
  | ⟨1, _⟩ => rfl
  | ⟨2, _⟩ => rfl

/-- The gathered row of place `p` of table `k` is the row the index there names. -/
theorem gather_at {α : Type} (x : S26x100000x16.Idx → α) (a1 : IVec S26x16384 32) (k : Fin 26) (p : Fin 16384) (c : Fin 16)
    (h : (a1 (ix2 k p)).toNat < 100000) :
    Host.gather gd x (gIdx a1) (ix3 k p c) = x (ix3 k ⟨(a1 (ix2 k p)).toNat, h⟩ c) := by
  have s0 : gd.start (ix3 k p c) (gIdx a1) 0 = min (gIdx a1 (gd.siIdx (ix3 k p c) (0 : Fin 2))).toInt.toNat (26 - 1) := rfl
  have s1 : gd.start (ix3 k p c) (gIdx a1) 1 = min (gIdx a1 (gd.siIdx (ix3 k p c) (1 : Fin 2))).toInt.toNat (100000 - 1) := rfl
  have s2 : gd.start (ix3 k p c) (gIdx a1) 2 = 0 := rfl
  have o0 : gd.offCoord (ix3 k p c) 0 = 0 := rfl
  have o1 : gd.offCoord (ix3 k p c) 1 = 0 := rfl
  have o2 : gd.offCoord (ix3 k p c) 2 = c.val := rfl
  rw [gd_siIdx, gIdx_0, table_toInt] at s0
  rw [gd_siIdx, gIdx_1 a1 k p h, toInt_eq_toNat_of_lt_half (by omega)] at s1
  have := k.isLt
  refine congrArg x (funext fun a => Fin.ext ?_)
  show gd.start (ix3 k p c) (gIdx a1) a + gd.batchCoord (ix3 k p c) a + gd.offCoord (ix3 k p c) a = _
  rw [gd.batchCoord_eq_zero _ _ (List.not_mem_nil)]
  match a with
  | ⟨0, _⟩ => exact (congrArg₂ (fun u v => u + 0 + v) s0 o0).trans (by show _ = k.val; omega)
  | ⟨1, _⟩ => exact (congrArg₂ (fun u v => u + 0 + v) s1 o1).trans (by show _ = (a1 (ix2 k p)).toNat; omega)
  | ⟨2, _⟩ => exact (congrArg₂ (fun u v => u + 0 + v) s2 o2).trans (by show _ = c.val; omega)

/-- The pair an update reads, word `q`. -/
theorem sd_siIdx (k : Fin 26) (p : Fin 16384) (c : Fin 16) (q : Fin 2) : sd.siIdx (ix3 k p c) q = ix3 k p q := by
  funext b
  apply Fin.ext
  match b with
  | ⟨0, _⟩ => rfl
  | ⟨1, _⟩ => rfl
  | ⟨2, _⟩ => rfl

/-- An update's window starts, on the tables' axis, at its pair's first word. -/
theorem sd_start_0 (idx : IVec S26x16384x2 32) (k : Fin 26) (p : Fin 16384) (c : Fin 16) :
    sd.start (ix3 k p c) idx 0 = (idx (ix3 k p 0)).toInt := by
  unfold ScatterDims.start
  rw [dif_pos (by decide)]
  exact congrArg (fun i => (idx i).toInt) (sd_siIdx k p c 0)

/-- An update's window starts, on the bags' axis, at its pair's second word. -/
theorem sd_start_1 (idx : IVec S26x16384x2 32) (k : Fin 26) (p : Fin 16384) (c : Fin 16) :
    sd.start (ix3 k p c) idx 1 = (idx (ix3 k p 1)).toInt := by
  unfold ScatterDims.start
  rw [dif_pos (by decide)]
  exact congrArg (fun i => (idx i).toInt) (sd_siIdx k p c 1)

/-- Every row lands in its table's one bag, column for column. -/
theorem lands (a0 : IVec S26x1 32) (k : Fin 26) (p : Fin 16384) (c : Fin 16) (h : (a0 (ix2 k 0)).toInt ≤ 0) :
    sd.resultIdx? (ix3 k p c) (sIdx a0) = some (ix3 k 0 c) := by
  have s0 := sd_start_0 (sIdx a0) k p c
  have s1 := sd_start_1 (sIdx a0) k p c
  have s2 : sd.start (ix3 k p c) (sIdx a0) 2 = 0 := rfl
  have w0 : sd.window (ix3 k p c) 0 = 0 := rfl
  have w1 : sd.window (ix3 k p c) 1 = 0 := rfl
  have w2 : sd.window (ix3 k p c) 2 = c.val := rfl
  rw [sIdx_0, table_toInt] at s0
  rw [sIdx_1 a0 k p h] at s1
  have e : ∀ a : Fin 3, sd.start (ix3 k p c) (sIdx a0) a + sd.window (ix3 k p c) a = ((ix3 k 0 c : S26x1x16.Idx) a).val := fun a => by
    match a with
    | ⟨0, _⟩ => exact (congrArg₂ (fun (u : ℤ) (v : ℕ) => u + v) s0 w0).trans (by show _ = (k.val : ℤ); simp)
    | ⟨1, _⟩ => exact (congrArg₂ (fun (u : ℤ) (v : ℕ) => u + v) s1 w1).trans rfl
    | ⟨2, _⟩ => exact (congrArg₂ (fun (u : ℤ) (v : ℕ) => u + v) s2 w2).trans (by show _ = (c.val : ℤ); simp)
  have lt : ∀ a : Fin 3, (((ix3 k 0 c : S26x1x16.Idx) a).val : ℤ) < (S26x1x16.size a : ℕ) := fun a =>
    Int.ofNat_lt.2 ((ix3 k 0 c : S26x1x16.Idx) a).isLt
  unfold ScatterDims.resultIdx?
  rw [dif_pos fun a => by rw [e a]; exact ⟨Int.natCast_nonneg _, lt a⟩]
  refine congrArg some (funext fun a => Fin.ext ?_)
  show (_ : ℤ).toNat = _
  rw [e a, Int.toNat_natCast]

/-- A table has one bag. -/
theorem bag (i : S26x1x16.Idx) : i = ix3 (i 0) 0 (i 2) := by
  conv_lhs => rw [ValueIdx.eq_ix3 i, show i 1 = (0 : Fin 1) from Subsingleton.elim (α := Fin 1) _ _]
  rfl

/-- An update that lands at `i` is of `i`'s table and column. -/
theorem row (i : S26x1x16.Idx) (j : S26x16384x16.Idx) (e : some (ix3 (j 0) (0 : Fin 1) (j 2)) = some i) :
    ix3 (i 0) (j 1) (i 2) = j := by
  obtain rfl := Option.some.inj e
  exact (ValueIdx.eq_ix3 j).symm

/-- The adding scatter at the bag of table `k`, column `c`: the sum of the updates of that table and column. -/
theorem scatter_at (a0 : IVec S26x1 32) (h : ∀ k : Fin 26, (a0 (ix2 k 0)).toInt ≤ 0) (z : S26x1x16.Idx → EReal)
    (u : S26x16384x16.Idx → EReal) (i : S26x1x16.Idx) :
    Ideal.hostScatterAdd sd z (sIdx a0) u i =
      z i + ∑ p : Fin 16384, u (ix3 (i 0) p (i 2)) := by
  have hl : ∀ j : S26x16384x16.Idx, sd.resultIdx? j (sIdx a0) = some (ix3 (j 0) 0 (j 2)) := fun j => by
    conv_lhs => rw [show j = ix3 (j 0) (j 1) (j 2) from ValueIdx.eq_ix3 j]
    exact lands a0 _ _ _ (h _)
  unfold Ideal.hostScatterAdd
  refine congrArg (z i + ·) ?_
  refine Finset.sum_bij' (fun j _ => j 1) (fun p _ => ix3 (i 0) p (i 2)) (fun _ _ => Finset.mem_univ _) (fun p _ => ?_) (fun j hj => ?_)
    (fun _ _ => rfl) (fun j hj => ?_)
  · refine Finset.mem_filter.2 ⟨Finset.mem_univ _, (hl _).trans (congrArg some ?_)⟩
    exact (bag i).symm
  · exact row i j ((hl j).symm.trans (Finset.mem_filter.1 hj).2)
  · exact congrArg u (row i j ((hl j).symm.trans (Finset.mem_filter.1 hj).2)).symm

/-- The adding scatter at the ideal values is its exact sum. -/
theorem scatterAdd_eq (z : FVec Ideal S26x1x16 .f32) (idx : IVec S26x16384x2 32) (u : FVec Ideal S26x16384x16 .f32) :
    Host.scatterAdd sd z idx u = Ideal.hostScatterAdd sd z idx u := by
  unfold Host.scatterAdd
  exact Ideal.hostScatterAdd_def sd _ z idx u

/-- The bags start at zero. -/
theorem zeros_at (i : S26x1x16.Idx) : broadcastInDim S26x1x16 ![] bcast_S_S26x1x16 (constant (F := Ideal) S_ .f32 0x00000000#32) i = 0 := by
  pointwise

/-- What the reference computes, of its three arguments at the ideal values. -/
def result (a0 : IVec S26x1 32) (a1 : IVec S26x16384 32) (a2 : FVec Ideal S26x100000x16 .f32) : FVec Ideal S26x1x16 .f32 :=
  Host.scatterAdd sd (broadcastInDim S26x1x16 ![] bcast_S_S26x1x16 (constant S_ .f32 0x00000000#32)) (sIdx a0) (Host.gather gd a2 (gIdx a1))

/-- The reference's result is its exact sum. -/
theorem result_eq (a0 : IVec S26x1 32) (a1 : IVec S26x16384 32) (a2 : FVec Ideal S26x100000x16 .f32) :
    result a0 a1 a2 = Ideal.hostScatterAdd sd (broadcastInDim S26x1x16 ![] bcast_S_S26x1x16 (constant (F := Ideal) S_ .f32 0x00000000#32)) (sIdx a0)
      (Host.gather gd a2 (gIdx a1)) := by
  unfold result
  exact scatterAdd_eq _ _ _

/-- A sum of gathered rows' elements, each read from its table. -/
theorem sum_gather (a1 : IVec S26x16384 32) (h1 : ∀ j, (a1 j).toNat < 100000) (a2 : S26x100000x16.Idx → EReal) (k : Fin 26) (c : Fin 16) :
    (∑ p : Fin 16384, Host.gather gd a2 (gIdx a1) (ix3 k p c)) = ∑ p : Fin 16384, a2 (ix3 k ⟨(a1 (ix2 k p)).toNat, h1 _⟩ c) :=
  Finset.sum_congr rfl fun p _ => gather_at a2 a1 k p c (h1 _)

/-- Bag `k`'s column `c`: the sum, over the table's indices, of column `c` of the row named. -/
theorem result_at (a0 : IVec S26x1 32) (h0 : ∀ k : Fin 26, (a0 (ix2 k 0)).toInt ≤ 0) (a1 : IVec S26x16384 32)
    (h1 : ∀ j, (a1 j).toNat < 100000) (a2 : FVec Ideal S26x100000x16 .f32) (i : S26x1x16.Idx) :
    (result a0 a1 a2 i : EReal) = ∑ p : Fin 16384, (a2 (ix3 (i 0) ⟨(a1 (ix2 (i 0) p)).toNat, h1 _⟩ (i 2)) : EReal) := by
  rw [result_eq, scatter_at a0 h0, zeros_at, zero_add]
  exact sum_gather a1 h1 a2 (i 0) (i 2)

end Cert.Proof.Reference
-- ==== Proof.Algebraic.lean ====
/-
  The algebraic claim: at the ideal values the kernel's result and the reference's are the same sums, table by table and
  column by column.
-/
module

public import proofs.«01_k».proof.Proof.Frames
public import proofs.«01_k».proof.Proof.Values
public import proofs.«01_k».proof.Proof.Reference

@[expose] public section

noncomputable section

namespace Cert.Proof.Algebraic

open Idealize.ShloMosaic Idealize.SL.Sem

/-- The reference's result is the bag sums that the kernel's is. -/
theorem result_eq (a0 : IVec Cert.ReferenceIdeal.S26x1 32) (h0 : ∀ k : Fin 26, (a0 (ix2 k 0)).toInt ≤ 0) (a1 : IVec Cert.ReferenceIdeal.S26x16384 32)
    (h1 : ∀ j, (a1 j).toNat < 100000) (a2 : FVec Ideal Cert.ReferenceIdeal.S26x100000x16 .f32) :
    Reference.result a0 a1 a2 = Values.bags a1 h1 a2 :=
  funext fun i => Reference.result_at a0 h0 a1 h1 a2 i

/-- `Cert.algebraic_KernelIdeal_ReferenceIdeal_pre_in_bag`: both programs end at the bag sums of the kernel's arguments. -/
theorem algebraic : Cert.algebraic_KernelIdeal_ReferenceIdeal_pre_in_bag := by
  intro m g m' g' hpre hargs
  have hok : Task.PreOK (F := Ideal) m := fun d j => Frames.bag_index_lt (hpre d) j
  refine ⟨fun c => Launch.final m c, ?_, ?_⟩
  · exact (θ_run Cert.KernelIdeal.defs _ _).mono (fun _ h => h.1) (Launch.run_main (F := Ideal) m g hok)
  · refine (θ_run Cert.ReferenceIdeal.defs _ _).mono (fun r h c => ⟨?_, (h c).2⟩) (Cert.ReferenceIdeal.Value.run (F := Ideal) m' g')
    obtain ⟨e0, e1, e2⟩ := hargs c
    refine (h c).1.trans ?_
    rw [e0, e1, e2]
    exact (result_eq _ (fun k => Frames.bag_offset_le (hpre c) (ix2 k 0)) _ (hok c) _).trans (Values.final_eq m hok c).symm

end Cert.Proof.Algebraic

end
-- ==== Proof.lean ====
/-
  The certificate's claim, assembled from the modules under Proof/.
-/
module

public import proofs.«01_k».proof.Defs
public import proofs.«01_k».proof.Proof.Frames
public import proofs.«01_k».proof.Proof.Algebraic

@[expose] public section

noncomputable section

namespace Cert.Proof

/-- The certificate: the frames of the two readings of the kernel and of the reference, no operation rewritten, and the
    idealization's result the reference's. -/
theorem claim : Cert.Claim := ⟨Cert.Kernel.Gen.facts, Cert.KernelIdeal.Gen.facts, Cert.ReferenceIdeal.Gen.facts, Cert.Pre_in_range.Gen.facts,
  Cert.Pre_in_bag.Gen.facts, Frames.frame_kernel, Frames.frame_kernelIdeal, Frames.frame_kernelIdeal_in_bag, Frames.frame_referenceIdeal,
  Frames.frame_referenceIdeal_in_bag, trivial, Algebraic.algebraic⟩

end Cert.Proof

end
